-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_boxes [hPre_proper_boxes : Cert.Pre_proper_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_boxes [hPre_proper_boxes : Cert.Pre_proper_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_proper_boxes [hKernelIdeal : Cert.KernelIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_proper_boxes [hReferenceIdeal : Cert.ReferenceIdeal.Facts] [hPre_proper_boxes : Cert.Pre_proper_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_proper_boxes [hKernelIdeal : Cert.KernelIdeal.Facts] [hReferenceIdeal : Cert.ReferenceIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_proper_boxes : Cert.Pre_proper_boxes.Facts),
    quiescent_Kernel (hKernel := hKernel)
    ∧ quiescent_KernelIdeal (hKernelIdeal := hKernelIdeal)
    ∧ quiescent_KernelIdeal_pre_proper_boxes (hKernelIdeal := hKernelIdeal) (hPre_proper_boxes := hPre_proper_boxes)
    ∧ quiescent_ReferenceIdeal (hReferenceIdeal := hReferenceIdeal)
    ∧ quiescent_ReferenceIdeal_pre_proper_boxes (hReferenceIdeal := hReferenceIdeal) (hPre_proper_boxes := hPre_proper_boxes)
    ∧ preserves_Kernel_KernelIdeal
    ∧ algebraic_KernelIdeal_ReferenceIdeal_pre_proper_boxes (hKernelIdeal := hKernelIdeal) (hReferenceIdeal := hReferenceIdeal) (hPre_proper_boxes := hPre_proper_boxes)
-- ==== Pre_proper_boxes.lean ====
abbrev S4x256x4 : Shape := ⟨3, ![4, 256, 4]⟩
abbrev S4x256x50x50 : Shape := ⟨4, ![4, 256, 50, 50]⟩
abbrev S4x256x1 : Shape := ⟨3, ![4, 256, 1]⟩
abbrev S4x256 : Shape := ⟨2, ![4, 256]⟩
abbrev S_ : Shape := ⟨0, ![]⟩

class Facts : Prop where
  slices_S4x256x4_S4x256x1_0_0_0 : S4x256x4.Slices ![0, 0, 0] S4x256x1
  shapeCasts_S4x256x1_S4x256 : S4x256x1.ShapeCasts S4x256
  slices_S4x256x4_S4x256x1_0_0_1 : S4x256x4.Slices ![0, 0, 1] S4x256x1
  slices_S4x256x4_S4x256x1_0_0_2 : S4x256x4.Slices ![0, 0, 2] S4x256x1
  slices_S4x256x4_S4x256x1_0_0_3 : S4x256x4.Slices ![0, 0, 3] S4x256x1
  bcast_S_S4x256 : S_.BroadcastsInDim S4x256 (![] : Fin 0 → Fin S4x256.rank)

variable [Facts]

def fn_part1 {F : FTy → Type} [FloatOps F] (main_v1 : FVec F S4x256 .f32) (main_v3 : FVec F S4x256 .f32) (main_v5 : FVec F S4x256 .f32) (main_v7 : FVec F S4x256 .f32) (main_v18 : IVec S4x256 1) (main_cst_3 : FVec F S_ .f32) : IVec S4x256 1 :=
  let main_v19 : FVec F S4x256 .f32 := broadcastInDim S4x256 ![] bcast_S_S4x256 main_cst_3
  let main_v20 : IVec S4x256 1 := cmpf .olt main_v1 main_v19
  let main_v21 : IVec S4x256 1 := andi main_v18 main_v20
  let main_cst_4 : FVec F S_ .f32 := constant S_ .f32 0x7F800000#32
  let main_v22 : FVec F S4x256 .f32 := broadcastInDim S4x256 ![] bcast_S_S4x256 main_cst_4
  let main_v23 : IVec S4x256 1 := cmpf .olt main_v3 main_v22
  let main_v24 : IVec S4x256 1 := andi main_v21 main_v23
  let main_cst_5 : FVec F S_ .f32 := constant S_ .f32 0x7F800000#32
  let main_v25 : FVec F S4x256 .f32 := broadcastInDim S4x256 ![] bcast_S_S4x256 main_cst_5
  let main_v26 : IVec S4x256 1 := cmpf .olt main_v5 main_v25
  let main_v27 : IVec S4x256 1 := andi main_v24 main_v26
  let main_cst_6 : FVec F S_ .f32 := constant S_ .f32 0x7F800000#32
  let main_v28 : FVec F S4x256 .f32 := broadcastInDim S4x256 ![] bcast_S_S4x256 main_cst_6
  let main_v29 : IVec S4x256 1 := cmpf .olt main_v7 main_v28
  let main_v30 : IVec S4x256 1 := andi main_v27 main_v29
  main_v30

def fn {F : FTy → Type} [FloatOps F] (main_arg0 : FVec F S4x256x4 .f32) (main_arg1 : FVec F S4x256x50x50 .f32) : IVec S4x256 1 :=
  let main_v0 : FVec F S4x256x1 .f32 := (extractStridedSlice S4x256x1 ![0, 0, 0] · slices_S4x256x4_S4x256x1_0_0_0) main_arg0
  let main_v1 : FVec F S4x256 .f32 := shapeCast S4x256 main_v0 shapeCasts_S4x256x1_S4x256
  let main_v2 : FVec F S4x256x1 .f32 := (extractStridedSlice S4x256x1 ![0, 0, 1] · slices_S4x256x4_S4x256x1_0_0_1) main_arg0
  let main_v3 : FVec F S4x256 .f32 := shapeCast S4x256 main_v2 shapeCasts_S4x256x1_S4x256
  let main_v4 : FVec F S4x256x1 .f32 := (extractStridedSlice S4x256x1 ![0, 0, 2] · slices_S4x256x4_S4x256x1_0_0_2) main_arg0
  let main_v5 : FVec F S4x256 .f32 := shapeCast S4x256 main_v4 shapeCasts_S4x256x1_S4x256
  let main_v6 : FVec F S4x256x1 .f32 := (extractStridedSlice S4x256x1 ![0, 0, 3] · slices_S4x256x4_S4x256x1_0_0_3) main_arg0
  let main_v7 : FVec F S4x256 .f32 := shapeCast S4x256 main_v6 shapeCasts_S4x256x1_S4x256
  let main_cst : FVec F S_ .f32 := constant S_ .f32 0x00000000#32
  let main_v8 : FVec F S4x256 .f32 := broadcastInDim S4x256 ![] bcast_S_S4x256 main_cst
  let main_v9 : IVec S4x256 1 := cmpf .oge main_v1 main_v8
  let main_cst_0 : FVec F S_ .f32 := constant S_ .f32 0x00000000#32
  let main_v10 : FVec F S4x256 .f32 := broadcastInDim S4x256 ![] bcast_S_S4x256 main_cst_0
  let main_v11 : IVec S4x256 1 := cmpf .oge main_v3 main_v10
  let main_v12 : IVec S4x256 1 := andi main_v9 main_v11
  let main_cst_1 : FVec F S_ .f32 := constant S_ .f32 0x00000000#32
  let main_v13 : FVec F S4x256 .f32 := broadcastInDim S4x256 ![] bcast_S_S4x256 main_cst_1
  let main_v14 : IVec S4x256 1 := cmpf .ogt main_v5 main_v13
  let main_v15 : IVec S4x256 1 := andi main_v12 main_v14
  let main_cst_2 : FVec F S_ .f32 := constant S_ .f32 0x00000000#32
  let main_v16 : FVec F S4x256 .f32 := broadcastInDim S4x256 ![] bcast_S_S4x256 main_cst_2
  let main_v17 : IVec S4x256 1 := cmpf .ogt main_v7 main_v16
  let main_v18 : IVec S4x256 1 := andi main_v15 main_v17
  let main_cst_3 : FVec F S_ .f32 := constant S_ .f32 0x7F800000#32
  fn_part1 (F := F) main_v1 main_v3 main_v5 main_v7 main_v18 main_cst_3
-- ==== Kernel.lean ====
abbrev S4x256x4 : Shape := ⟨3, ![4, 256, 4]⟩
abbrev S4x256x50x50 : Shape := ⟨4, ![4, 256, 50, 50]⟩
abbrev S196 : Shape := ⟨1, ![196]⟩
abbrev S4x256x1 : Shape := ⟨3, ![4, 256, 1]⟩
abbrev S4x256 : Shape := ⟨2, ![4, 256]⟩
abbrev S_ : Shape := ⟨0, ![]⟩
abbrev S1x1x196 : Shape := ⟨3, ![1, 1, 196]⟩
abbrev S4x256x196 : Shape := ⟨3, ![4, 256, 196]⟩
abbrev S4x8x1x6272 : Shape := ⟨4, ![4, 8, 1, 6272]⟩
abbrev S4x256x50x64 : Shape := ⟨4, ![4, 256, 50, 64]⟩
abbrev S4x256x3200 : Shape := ⟨3, ![4, 256, 3200]⟩
abbrev S4x256x256x49 : Shape := ⟨4, ![4, 256, 256, 49]⟩
abbrev S4x256x256x7x7 : Shape := ⟨5, ![4, 256, 256, 7, 7]⟩
abbrev S1x1x1x6272 : Shape := ⟨4, ![1, 1, 1, 6272]⟩
abbrev S1x256x3200 : Shape := ⟨3, ![1, 256, 3200]⟩
abbrev S1x32x256x49 : Shape := ⟨4, ![1, 32, 256, 49]⟩
abbrev S256x3200 : Shape := ⟨2, ![256, 3200]⟩
abbrev S1x6272 : Shape := ⟨2, ![1, 6272]⟩
abbrev S50x6272 : Shape := ⟨2, ![50, 6272]⟩
abbrev S64x6272 : Shape := ⟨2, ![64, 6272]⟩
abbrev S50x1x6272 : Shape := ⟨3, ![50, 1, 6272]⟩
abbrev S50x64x6272 : Shape := ⟨3, ![50, 64, 6272]⟩
abbrev S1x64x6272 : Shape := ⟨3, ![1, 64, 6272]⟩
abbrev S3200x6272 : Shape := ⟨2, ![3200, 6272]⟩
abbrev S256x6272 : Shape := ⟨2, ![256, 6272]⟩
abbrev S256x49 : Shape := ⟨2, ![256, 49]⟩
abbrev S1x1x256x49 : Shape := ⟨4, ![1, 1, 256, 49]⟩

abbrev nBuf : Space → Nat
  | .hbm => 76
  | .vmem => 8
  | .smem => 0
  | _ => 0

abbrev bufTy : (tb : Table) → Fin (tcTables nBuf tb) → BufTy
  | .hbm, ⟨0, _⟩ => ⟨S4x256x4, .f32⟩
  | .hbm, ⟨1, _⟩ => ⟨S4x256x50x50, .f32⟩
  | .hbm, ⟨2, _⟩ => ⟨S196, .f32⟩
  | .hbm, ⟨3, _⟩ => ⟨S196, .f32⟩
  | .hbm, ⟨4, _⟩ => ⟨S4x256x1, .f32⟩
  | .hbm, ⟨5, _⟩ => ⟨S4x256, .f32⟩
  | .hbm, ⟨6, _⟩ => ⟨S_, .f32⟩
  | .hbm, ⟨7, _⟩ => ⟨S4x256, .f32⟩
  | .hbm, ⟨8, _⟩ => ⟨S4x256, .f32⟩
  | .hbm, ⟨9, _⟩ => ⟨S4x256, .f32⟩
  | .hbm, ⟨10, _⟩ => ⟨S4x256x1, .f32⟩
  | .hbm, ⟨11, _⟩ => ⟨S4x256, .f32⟩
  | .hbm, ⟨12, _⟩ => ⟨S_, .f32⟩
  | .hbm, ⟨13, _⟩ => ⟨S4x256, .f32⟩
  | .hbm, ⟨14, _⟩ => ⟨S4x256, .f32⟩
  | .hbm, ⟨15, _⟩ => ⟨S4x256, .f32⟩
  | .hbm, ⟨16, _⟩ => ⟨S4x256x1, .f32⟩
  | .hbm, ⟨17, _⟩ => ⟨S4x256, .f32⟩
  | .hbm, ⟨18, _⟩ => ⟨S_, .f32⟩
  | .hbm, ⟨19, _⟩ => ⟨S4x256, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256x1, .f32⟩
  | .hbm, ⟨26, _⟩ => ⟨S4x256, .f32⟩
  | .hbm, ⟨27, _⟩ => ⟨S_, .f32⟩
  | .hbm, ⟨28, _⟩ => ⟨S4x256, .f32⟩
  | .hbm, ⟨29, _⟩ => ⟨S4x256, .f32⟩
  | .hbm, ⟨30, _⟩ => ⟨S4x256, .f32⟩
  | .hbm, ⟨31, _⟩ => ⟨S_, .f32⟩
  | .hbm, ⟨32, _⟩ => ⟨S4x256, .f32⟩
  | .hbm, ⟨33, _⟩ => ⟨S4x256, .f32⟩
  | .hbm, ⟨34, _⟩ => ⟨S4x256x1, .f32⟩
  | .hbm, ⟨35, _⟩ => ⟨S4x256x1, .f32⟩
  | .hbm, ⟨36, _⟩ => ⟨S1x1x196, .f32⟩
  | .hbm, ⟨37, _⟩ => ⟨S4x256x196, .f32⟩
  | .hbm, ⟨38, _⟩ => ⟨S4x256x196, .f32⟩
  | .hbm, ⟨39, _⟩ => ⟨S4x256x196, .f32⟩
  | .hbm, ⟨40, _⟩ => ⟨S4x256x196, .f32⟩
  | .hbm, ⟨41, _⟩ => ⟨S4x256x196, .f32⟩
  | .hbm, ⟨42, _⟩ => ⟨S_, .f32⟩
  | .hbm, ⟨43, _⟩ => ⟨S_, .i32⟩
  | .hbm, ⟨44, _⟩ => ⟨S_, .f32⟩
  | .hbm, ⟨45, _⟩ => ⟨S4x256x196, .f32⟩
  | .hbm, ⟨46, _⟩ => ⟨S4x256x196, .f32⟩
  | .hbm, ⟨47, _⟩ => ⟨S_, .f32⟩
  | .hbm, ⟨48, _⟩ => ⟨S4x256x196, .f32⟩
  | .hbm, ⟨49, _⟩ => ⟨S4x256x196, .f32⟩
  | .hbm, ⟨50, _⟩ => ⟨S4x256x1, .f32⟩
  | .hbm, ⟨51, _⟩ => ⟨S4x256x1, .f32⟩
  | .hbm, ⟨52, _⟩ => ⟨S1x1x196, .f32⟩
  | .hbm, ⟨53, _⟩ => ⟨S4x256x196, .f32⟩
  | .hbm, ⟨54, _⟩ => ⟨S4x256x196, .f32⟩
  | .hbm, ⟨55, _⟩ => ⟨S4x256x196, .f32⟩
  | .hbm, ⟨56, _⟩ => ⟨S4x256x196, .f32⟩
  | .hbm, ⟨57, _⟩ => ⟨S4x256x196, .f32⟩
  | .hbm, ⟨58, _⟩ => ⟨S_, .f32⟩
  | .hbm, ⟨59, _⟩ => ⟨S_, .i32⟩
  | .hbm, ⟨60, _⟩ => ⟨S_, .f32⟩
  | .hbm, ⟨61, _⟩ => ⟨S4x256x196, .f32⟩
  | .hbm, ⟨62, _⟩ => ⟨S4x256x196, .f32⟩
  | .hbm, ⟨63, _⟩ => ⟨S_, .f32⟩
  | .hbm, ⟨64, _⟩ => ⟨S4x256x196, .f32⟩
  | .hbm, ⟨65, _⟩ => ⟨S4x256x196, .f32⟩
  | .hbm, ⟨66, _⟩ => ⟨S4x8x1x6272, .f32⟩
  | .hbm, ⟨67, _⟩ => ⟨S4x8x1x6272, .f32⟩
  | .hbm, ⟨68, _⟩ => ⟨S4x256x50x50, .bf16⟩
  | .hbm, ⟨69, _⟩ => ⟨S_, .i32⟩
  | .hbm, ⟨70, _⟩ => ⟨S_, .bf16⟩
  | .hbm, ⟨71, _⟩ => ⟨S4x256x50x64, .bf16⟩
  | .hbm, ⟨72, _⟩ => ⟨S4x256x3200, .bf16⟩
  | .hbm, ⟨73, _⟩ => ⟨S4x256x256x49, .bf16⟩
  | .hbm, ⟨74, _⟩ => ⟨S4x256x256x7x7, .bf16⟩
  | .hbm, ⟨75, _⟩ => ⟨S4x256x256x7x7, .f32⟩
  | .local _ .vmem, ⟨0, _⟩ => ⟨S1x1x1x6272, .f32⟩
  | .local _ .vmem, ⟨1, _⟩ => ⟨S1x1x1x6272, .f32⟩
  | .local _ .vmem, ⟨2, _⟩ => ⟨S1x1x1x6272, .f32⟩
  | .local _ .vmem, ⟨3, _⟩ => ⟨S1x1x1x6272, .f32⟩
  | .local _ .vmem, ⟨4, _⟩ => ⟨S1x256x3200, .bf16⟩
  | .local _ .vmem, ⟨5, _⟩ => ⟨S1x256x3200, .bf16⟩
  | .local _ .vmem, ⟨6, _⟩ => ⟨S1x32x256x49, .bf16⟩
  | .local _ .vmem, ⟨7, _⟩ => ⟨S1x32x256x49, .bf16⟩
  | _, _ => ⟨S4x256x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_cst_1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_2 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_cst_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst_4 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_cst_5 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_cst_6 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_call0_cst_7 : Ref sig .tc := ⟨.hbm, 42, rfl⟩
abbrev main_call0_c : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_v40 : Ref sig .tc := ⟨.hbm, 57, rfl⟩
abbrev main_call0_cst_8 : Ref sig .tc := ⟨.hbm, 58, rfl⟩
abbrev main_call0_c_9 : Ref sig .tc := ⟨.hbm, 59, rfl⟩
abbrev main_call0_call1_v0 : Ref sig .tc := ⟨.hbm, 60, rfl⟩
abbrev main_call0_call1_v1 : Ref sig .tc := ⟨.hbm, 61, rfl⟩
abbrev main_call0_call1_v2 : Ref sig .tc := ⟨.hbm, 62, rfl⟩
abbrev main_call0_call1_v3 : Ref sig .tc := ⟨.hbm, 63, rfl⟩
abbrev main_call0_call1_v4 : Ref sig .tc := ⟨.hbm, 64, rfl⟩
abbrev main_call0_v41 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_call0_c_10 : Ref sig .tc := ⟨.hbm, 69, rfl⟩
abbrev main_call0_call2_v0 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_v48 : Ref sig .tc := ⟨.hbm, 74, rfl⟩
abbrev main_v0 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x6272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x256x49 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x256x4 : Shape := ⟨3, ![4, 256, 4]⟩
abbrev S4x256x50x50 : Shape := ⟨4, ![4, 256, 50, 50]⟩
abbrev S14 : Shape := ⟨1, ![14]⟩
abbrev S4x256x1 : Shape := ⟨3, ![4, 256, 1]⟩
abbrev S4x256 : Shape := ⟨2, ![4, 256]⟩
abbrev S_ : Shape := ⟨0, ![]⟩
abbrev S1x1x14 : Shape := ⟨3, ![1, 1, 14]⟩
abbrev S4x256x14 : Shape := ⟨3, ![4, 256, 14]⟩
abbrev S4x256x14x1 : Shape := ⟨4, ![4, 256, 14, 1]⟩
abbrev S4x256x1x14 : Shape := ⟨4, ![4, 256, 1, 14]⟩
abbrev S4x256x14x14 : Shape := ⟨4, ![4, 256, 14, 14]⟩
abbrev S4x256x14x14x1 : Shape := ⟨5, ![4, 256, 14, 14, 1]⟩
abbrev S4x256x14x14x2 : Shape := ⟨5, ![4, 256, 14, 14, 2]⟩
abbrev S4x256x256x14x14 : Shape := ⟨5, ![4, 256, 256, 14, 14]⟩
abbrev S4x1x256x14x14 : Shape := ⟨5, ![4, 1, 256, 14, 14]⟩
abbrev S4x256x256x7x2x7x2 : Shape := ⟨7, ![4, 256, 256, 7, 2, 7, 2]⟩
abbrev S4x256x256x7x7 : Shape := ⟨5, ![4, 256, 256, 7, 7]⟩

abbrev nBuf : Space → Nat
  | .hbm => 216
  | .vmem => 0
  | .smem => 0
  | _ => 0

abbrev hbmTy0_0 (i : Nat) : BufTy := match i % 128 with
  | 0 => ⟨S4x256x4, .f32⟩
  | 1 => ⟨S4x256x50x50, .f32⟩
  | 2 => ⟨S14, .f32⟩
  | 3 => ⟨S4x256x1, .f32⟩
  | 4 => ⟨S4x256, .f32⟩
  | 5 => ⟨S_, .f32⟩
  | 6 => ⟨S4x256, .f32⟩
  | 7 => ⟨S4x256, .f32⟩
  | 8 => ⟨S4x256, .f32⟩
  | 9 => ⟨S4x256x1, .f32⟩
  | 10 => ⟨S4x256, .f32⟩
  | 11 => ⟨S_, .f32⟩
  | 12 => ⟨S4x256, .f32⟩
  | 13 => ⟨S4x256, .f32⟩
  | 14 => ⟨S4x256, .f32⟩
  | 15 => ⟨S4x256x1, .f32⟩
  | 16 => ⟨S4x256, .f32⟩
  | 17 => ⟨S_, .f32⟩
  | 18 => ⟨S4x256, .f32⟩
  | 19 => ⟨S4x256, .f32⟩
  | 20 => ⟨S4x256, .f32⟩
  | 21 => ⟨S4x256x1, .f32⟩
  | 22 => ⟨S4x256, .f32⟩
  | 23 => ⟨S_, .f32⟩
  | 24 => ⟨S4x256, .f32⟩
  | 25 => ⟨S4x256, .f32⟩
  | 26 => ⟨S4x256, .f32⟩
  | 27 => ⟨S4x256x1, .f32⟩
  | 28 => ⟨S_, .f32⟩
  | 29 => ⟨S4x256, .f32⟩
  | 30 => ⟨S4x256, .f32⟩
  | 31 => ⟨S4x256x1, .f32⟩
  | 32 => ⟨S1x1x14, .f32⟩
  | 33 => ⟨S4x256x14, .f32⟩
  | 34 => ⟨S4x256x14, .f32⟩
  | 35 => ⟨S4x256x14, .f32⟩
  | 36 => ⟨S4x256x14, .f32⟩
  | 37 => ⟨S4x256x14, .f32⟩
  | 38 => ⟨S4x256x1, .f32⟩
  | 39 => ⟨S_, .f32⟩
  | 40 => ⟨S4x256, .f32⟩
  | 41 => ⟨S4x256, .f32⟩
  | 42 => ⟨S4x256x1, .f32⟩
  | 43 => ⟨S1x1x14, .f32⟩
  | 44 => ⟨S4x256x14, .f32⟩
  | 45 => ⟨S4x256x14, .f32⟩
  | 46 => ⟨S4x256x14, .f32⟩
  | 47 => ⟨S4x256x14, .f32⟩
  | 48 => ⟨S4x256x14, .f32⟩
  | 49 => ⟨S4x256x14, .f32⟩
  | 50 => ⟨S4x256x14, .f32⟩
  | 51 => ⟨S4x256x14, .f32⟩
  | 52 => ⟨S4x256x14, .f32⟩
  | 53 => ⟨S4x256x14, .i32⟩
  | 54 => ⟨S_, .i32⟩
  | 55 => ⟨S_, .i32⟩
  | 56 => ⟨S_, .i32⟩
  | 57 => ⟨S4x256x14, .i32⟩
  | 58 => ⟨S4x256x14, .i32⟩
  | 59 => ⟨S_, .i32⟩
  | 60 => ⟨S4x256x14, .i32⟩
  | 61 => ⟨S4x256x14, .i32⟩
  | 62 => ⟨S_, .i32⟩
  | 63 => ⟨S4x256x14, .i32⟩
  | 64 => ⟨S4x256x14, .i32⟩
  | 65 => ⟨S_, .i32⟩
  | 66 => ⟨S_, .i32⟩
  | 67 => ⟨S_, .i32⟩
  | 68 => ⟨S4x256x14, .i32⟩
  | 69 => ⟨S4x256x14, .i32⟩
  | 70 => ⟨S_, .i32⟩
  | 71 => ⟨S4x256x14, .i32⟩
  | 72 => ⟨S4x256x14, .i32⟩
  | 73 => ⟨S4x256x14, .i32⟩
  | 74 => ⟨S_, .i32⟩
  | 75 => ⟨S_, .i32⟩
  | 76 => ⟨S_, .i32⟩
  | 77 => ⟨S4x256x14, .i32⟩
  | 78 => ⟨S4x256x14, .i32⟩
  | 79 => ⟨S_, .i32⟩
  | 80 => ⟨S4x256x14, .i32⟩
  | 81 => ⟨S4x256x14, .i32⟩
  | 82 => ⟨S_, .i32⟩
  | 83 => ⟨S4x256x14, .i32⟩
  | 84 => ⟨S4x256x14, .i32⟩
  | 85 => ⟨S_, .i32⟩
  | 86 => ⟨S_, .i32⟩
  | 87 => ⟨S_, .i32⟩
  | 88 => ⟨S4x256x14, .i32⟩
  | 89 => ⟨S4x256x14, .i32⟩
  | 90 => ⟨S_, .i32⟩
  | 91 => ⟨S4x256x14, .i32⟩
  | 92 => ⟨S4x256x14, .i32⟩
  | 93 => ⟨S4x256x14x1, .i32⟩
  | 94 => ⟨S4x256x14x1, .i32⟩
  | 95 => ⟨S4x256x1x14, .i32⟩
  | 96 => ⟨S4x256x1x14, .i32⟩
  | 97 => ⟨S_, .i32⟩
  | 98 => ⟨S4x256x14x1, .i32⟩
  | 99 => ⟨S4x256x14x1, .i1⟩
  | 100 => ⟨S_, .i32⟩
  | 101 => ⟨S4x256x14x1, .i32⟩
  | 102 => ⟨S4x256x14x1, .i32⟩
  | 103 => ⟨S4x256x14x1, .i32⟩
  | 104 => ⟨S_, .i32⟩
  | 105 => ⟨S4x256x1x14, .i32⟩
  | 106 => ⟨S4x256x1x14, .i1⟩
  | 107 => ⟨S_, .i32⟩
  | 108 => ⟨S4x256x1x14, .i32⟩
  | 109 => ⟨S4x256x1x14, .i32⟩
  | 110 => ⟨S4x256x1x14, .i32⟩
  | 111 => ⟨S4x256x14x14, .i32⟩
  | 112 => ⟨S4x256x14x14, .i32⟩
  | 113 => ⟨S4x256x14x14x1, .i32⟩
  | 114 => ⟨S4x256x14x14x1, .i32⟩
  | 115 => ⟨S4x256x14x14x2, .i32⟩
  | 116 => ⟨S4x256x256x14x14, .f32⟩
  | 117 => ⟨S_, .i32⟩
  | 118 => ⟨S4x256x14x1, .i32⟩
  | 119 => ⟨S4x256x14x1, .i1⟩
  | 120 => ⟨S_, .i32⟩
  | 121 => ⟨S4x256x14x1, .i32⟩
  | 122 => ⟨S4x256x14x1, .i32⟩
  | 123 => ⟨S4x256x14x1, .i32⟩
  | 124 => ⟨S_, .i32⟩
  | 125 => ⟨S4x256x1x14, .i32⟩
  | 126 => ⟨S4x256x1x14, .i1⟩
  | 127 => ⟨S_, .i32⟩
  | _ => ⟨S4x256x4, .f32⟩

abbrev hbmTy0_1 (i : Nat) : BufTy := match i % 128 with
  | 0 => ⟨S4x256x1x14, .i32⟩
  | 1 => ⟨S4x256x1x14, .i32⟩
  | 2 => ⟨S4x256x1x14, .i32⟩
  | 3 => ⟨S4x256x14x14, .i32⟩
  | 4 => ⟨S4x256x14x14, .i32⟩
  | 5 => ⟨S4x256x14x14x1, .i32⟩
  | 6 => ⟨S4x256x14x14x1, .i32⟩
  | 7 => ⟨S4x256x14x14x2, .i32⟩
  | 8 => ⟨S4x256x256x14x14, .f32⟩
  | 9 => ⟨S_, .i32⟩
  | 10 => ⟨S4x256x14x1, .i32⟩
  | 11 => ⟨S4x256x14x1, .i1⟩
  | 12 => ⟨S_, .i32⟩
  | 13 => ⟨S4x256x14x1, .i32⟩
  | 14 => ⟨S4x256x14x1, .i32⟩
  | 15 => ⟨S4x256x14x1, .i32⟩
  | 16 => ⟨S_, .i32⟩
  | 17 => ⟨S4x256x1x14, .i32⟩
  | 18 => ⟨S4x256x1x14, .i1⟩
  | 19 => ⟨S_, .i32⟩
  | 20 => ⟨S4x256x1x14, .i32⟩
  | 21 => ⟨S4x256x1x14, .i32⟩
  | 22 => ⟨S4x256x1x14, .i32⟩
  | 23 => ⟨S4x256x14x14, .i32⟩
  | 24 => ⟨S4x256x14x14, .i32⟩
  | 25 => ⟨S4x256x14x14x1, .i32⟩
  | 26 => ⟨S4x256x14x14x1, .i32⟩
  | 27 => ⟨S4x256x14x14x2, .i32⟩
  | 28 => ⟨S4x256x256x14x14, .f32⟩
  | 29 => ⟨S_, .i32⟩
  | 30 => ⟨S4x256x14x1, .i32⟩
  | 31 => ⟨S4x256x14x1, .i1⟩
  | 32 => ⟨S_, .i32⟩
  | 33 => ⟨S4x256x14x1, .i32⟩
  | 34 => ⟨S4x256x14x1, .i32⟩
  | 35 => ⟨S4x256x14x1, .i32⟩
  | 36 => ⟨S_, .i32⟩
  | 37 => ⟨S4x256x1x14, .i32⟩
  | 38 => ⟨S4x256x1x14, .i1⟩
  | 39 => ⟨S_, .i32⟩
  | 40 => ⟨S4x256x1x14, .i32⟩
  | 41 => ⟨S4x256x1x14, .i32⟩
  | 42 => ⟨S4x256x1x14, .i32⟩
  | 43 => ⟨S4x256x14x14, .i32⟩
  | 44 => ⟨S4x256x14x14, .i32⟩
  | 45 => ⟨S4x256x14x14x1, .i32⟩
  | 46 => ⟨S4x256x14x14x1, .i32⟩
  | 47 => ⟨S4x256x14x14x2, .i32⟩
  | 48 => ⟨S4x256x256x14x14, .f32⟩
  | 49 => ⟨S4x256x14x1, .f32⟩
  | 50 => ⟨S_, .f32⟩
  | 51 => ⟨S4x256x14x1, .f32⟩
  | 52 => ⟨S4x256x14x1, .f32⟩
  | 53 => ⟨S4x256x1x14, .f32⟩
  | 54 => ⟨S_, .f32⟩
  | 55 => ⟨S4x256x1x14, .f32⟩
  | 56 => ⟨S4x256x1x14, .f32⟩
  | 57 => ⟨S4x256x14x14, .f32⟩
  | 58 => ⟨S4x256x14x14, .f32⟩
  | 59 => ⟨S4x256x14x14, .f32⟩
  | 60 => ⟨S4x1x256x14x14, .f32⟩
  | 61 => ⟨S4x256x256x14x14, .f32⟩
  | 62 => ⟨S4x256x256x14x14, .f32⟩
  | 63 => ⟨S4x256x14x14, .f32⟩
  | 64 => ⟨S4x256x14x14, .f32⟩
  | 65 => ⟨S4x256x14x14, .f32⟩
  | 66 => ⟨S4x1x256x14x14, .f32⟩
  | 67 => ⟨S4x256x256x14x14, .f32⟩
  | 68 => ⟨S4x256x256x14x14, .f32⟩
  | 69 => ⟨S4x256x256x14x14, .f32⟩
  | 70 => ⟨S4x256x14x14, .f32⟩
  | 71 => ⟨S4x256x14x14, .f32⟩
  | 72 => ⟨S4x256x14x14, .f32⟩
  | 73 => ⟨S4x1x256x14x14, .f32⟩
  | 74 => ⟨S4x256x256x14x14, .f32⟩
  | 75 => ⟨S4x256x256x14x14, .f32⟩
  | 76 => ⟨S4x256x256x14x14, .f32⟩
  | 77 => ⟨S4x256x14x14, .f32⟩
  | 78 => ⟨S4x256x14x14, .f32⟩
  | 79 => ⟨S4x256x14x14, .f32⟩
  | 80 => ⟨S4x1x256x14x14, .f32⟩
  | 81 => ⟨S4x256x256x14x14, .f32⟩
  | 82 => ⟨S4x256x256x14x14, .f32⟩
  | 83 => ⟨S4x256x256x14x14, .f32⟩
  | 84 => ⟨S4x256x256x14x14, .f32⟩
  | 85 => ⟨S4x256x256x7x2x7x2, .f32⟩
  | 86 => ⟨S_, .f32⟩
  | 87 => ⟨S4x256x256x7x7, .f32⟩
  | _ => ⟨S4x256x4, .f32⟩

abbrev hbmTy (i : Nat) : BufTy := match i / 128 with
  | 0 => hbmTy0_0 i
  | 1 => hbmTy0_1 i
  | _ => ⟨S4x256x4, .f32⟩

abbrev bufTy : (tb : Table) → Fin (tcTables nBuf tb) → BufTy
  | .hbm, ⟨i, _⟩ => hbmTy i
  | _, _ => ⟨S4x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c : Ref sig .tc := ⟨.hbm, 54, rfl⟩
abbrev main_c_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_c_9 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_c_11 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v50 : Ref sig .tc := ⟨.hbm, 81, rfl⟩
abbrev main_c_12 : Ref sig .tc := ⟨.hbm, 82, rfl⟩
abbrev main_v51 : Ref sig .tc := ⟨.hbm, 83, rfl⟩
abbrev main_v52 : Ref sig .tc := ⟨.hbm, 84, rfl⟩
abbrev main_c_13 : Ref sig .tc := ⟨.hbm, 85, rfl⟩
abbrev main_c_14 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_15 : Ref sig .tc := ⟨.hbm, 97, rfl⟩
abbrev main_v58 : Ref sig .tc := ⟨.hbm, 98, rfl⟩
abbrev main_v59 : Ref sig .tc := ⟨.hbm, 99, rfl⟩
abbrev main_c_16 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_17 : Ref sig .tc := ⟨.hbm, 104, rfl⟩
abbrev main_v63 : Ref sig .tc := ⟨.hbm, 105, rfl⟩
abbrev main_v64 : Ref sig .tc := ⟨.hbm, 106, rfl⟩
abbrev main_c_18 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_19 : Ref sig .tc := ⟨.hbm, 117, rfl⟩
abbrev main_v74 : Ref sig .tc := ⟨.hbm, 118, rfl⟩
abbrev main_v75 : Ref sig .tc := ⟨.hbm, 119, rfl⟩
abbrev main_c_20 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_21 : Ref sig .tc := ⟨.hbm, 124, rfl⟩
abbrev main_v79 : Ref sig .tc := ⟨.hbm, 125, rfl⟩
abbrev main_v80 : Ref sig .tc := ⟨.hbm, 126, rfl⟩
abbrev main_c_22 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_23 : Ref sig .tc := ⟨.hbm, 137, rfl⟩
abbrev main_v90 : Ref sig .tc := ⟨.hbm, 138, rfl⟩
abbrev main_v91 : Ref sig .tc := ⟨.hbm, 139, rfl⟩
abbrev main_c_24 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_25 : Ref sig .tc := ⟨.hbm, 144, rfl⟩
abbrev main_v95 : Ref sig .tc := ⟨.hbm, 145, rfl⟩
abbrev main_v96 : Ref sig .tc := ⟨.hbm, 146, rfl⟩
abbrev main_c_26 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_c_27 : Ref sig .tc := ⟨.hbm, 157, rfl⟩
abbrev main_v106 : Ref sig .tc := ⟨.hbm, 158, rfl⟩
abbrev main_v107 : Ref sig .tc := ⟨.hbm, 159, rfl⟩
abbrev main_c_28 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_29 : Ref sig .tc := ⟨.hbm, 164, rfl⟩
abbrev main_v111 : Ref sig .tc := ⟨.hbm, 165, rfl⟩
abbrev main_v112 : Ref sig .tc := ⟨.hbm, 166, rfl⟩
abbrev main_c_30 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_31 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_32 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_33 : Ref sig .tc := ⟨.hbm, 214, rfl⟩
abbrev main_v157 : Ref sig .tc := ⟨.hbm, 215, rfl⟩

abbrev nD : Nat := 1
abbrev τ : Topo := Topo.v7x

variable {F : FTy → Type} [FloatOps F]
-- ==== Proof.Interp.lean ====
/-
  The interpolation along one axis and along two, over the extended reals: a sum over all pixels, each
  weighted by the distance from the sample, is the sum over the four neighbours of the sample.
-/
module

public import Idealize.ShloMosaic.Lib.IdealHost

@[expose] public section

noncomputable section

namespace Cert.Roi

open Idealize.ShloMosaic
open scoped BigOperators

/-- The weight of pixel `i` for a sample at `c`: one at the pixel, falling to zero at distance one. -/
def hat (i c : ℝ) : ℝ := max (1 - |i - c|) 0

/-- A coordinate brought into the map, whose last pixel is 49. -/
def clampC (r : ℝ) : ℝ := min 49 (max 0 r)

/-- The pixel at or before the sample, at most 49. -/
def lo (r : ℝ) : ℕ := min ⌊r⌋₊ 49

/-- The pixel after that one, at most 49. -/
def hi (r : ℝ) : ℕ := min (lo r + 1) 49

/-- The pixel before a sample is in the map. -/
theorem lo_lt (r : ℝ) : lo r < 50 := by unfold lo; omega
theorem hi_lt (r : ℝ) : hi r < 50 := by unfold hi; omega

/-- The fractional part as the reference computes it. -/
theorem fract_eq (r : ℝ) : r - (⌊r⌋ : ℝ) = Int.fract r := rfl

/-- On the integers the weight is the two weights of linear interpolation, at the two neighbours. -/
theorem hat_split (r : ℝ) (hr : 0 ≤ r) (i : ℕ) :
    hat i (clampC r) = (if i = lo r then 1 - Int.fract r else 0) + (if i = hi r then Int.fract r else 0) := by
  unfold hat clampC hi lo
  rw [max_eq_right hr]
  rcases lt_or_ge r 49 with h | h
  · have h1 : (⌊r⌋₊ : ℝ) ≤ r := Nat.floor_le hr
    have h2 : r < (⌊r⌋₊ : ℝ) + 1 := Nat.lt_floor_add_one r
    have hn : ⌊r⌋₊ < 49 := by
      have : (⌊r⌋₊ : ℝ) < 49 := lt_of_le_of_lt h1 h
      exact_mod_cast this
    have hf : Int.fract r = r - (⌊r⌋₊ : ℝ) := by
      rw [Int.fract, ← natCast_floor_eq_intCast_floor hr]
    rw [min_eq_right h.le, hf, min_eq_left hn.le, min_eq_left (by omega)]
    generalize ⌊r⌋₊ = n at *
    rcases lt_trichotomy i n with hi | hi | hi
    · rw [if_neg (by omega), if_neg (by omega)]
      have : (i : ℝ) + 1 ≤ n := by exact_mod_cast hi
      rw [max_eq_right (by rw [abs_of_nonpos (by linarith)]; linarith), add_zero]
    · subst hi
      rw [if_pos rfl, if_neg (by omega), abs_of_nonpos (by linarith), max_eq_left (by linarith)]
      ring
    · rcases Nat.eq_or_lt_of_le (Nat.succ_le_of_lt hi) with he | hl
      · have he' : i = n + 1 := he.symm
        subst he'
        rw [if_neg (by omega), if_pos rfl]
        push_cast
        rw [abs_of_nonneg (by linarith), max_eq_left (by linarith)]
        ring
      · rw [if_neg (by omega), if_neg (by omega)]
        have : (n : ℝ) + 1 + 1 ≤ i := by exact_mod_cast hl
        rw [max_eq_right (by rw [abs_of_nonneg (by linarith)]; linarith), add_zero]
  · have hn : 49 ≤ ⌊r⌋₊ := Nat.le_floor (by exact_mod_cast h)
    rw [min_eq_left h, min_eq_right hn, min_eq_right (by norm_num)]
    rcases lt_trichotomy i 49 with hi | hi | hi
    · rw [if_neg (by omega), if_neg (by omega)]
      have : (i : ℝ) + 1 ≤ 49 := by exact_mod_cast hi
      rw [max_eq_right (by rw [abs_of_nonpos (by linarith)]; linarith), add_zero]
    · subst hi; norm_num
    · rw [if_neg (by omega), if_neg (by omega)]
      have : (49 : ℝ) + 1 ≤ i := by exact_mod_cast hi
      rw [max_eq_right (by rw [abs_of_nonneg (by linarith)]; linarith), add_zero]

/-- A sum whose weight is concentrated at one pixel is the value at that pixel times the weight. -/
theorem sum_at (F : ℕ → ℕ → EReal) (p q : ℕ) (hp : p < 50) (hq : q < 64) (u v : ℝ) :
    (∑ i : Fin 50, ∑ j : Fin 64,
      F i j * (((if (i : ℕ) = p then u else 0) * (if (j : ℕ) = q then v else 0) : ℝ) : EReal))
      = F p q * ((u * v : ℝ) : EReal) := by
  rw [Finset.sum_eq_single (⟨p, hp⟩ : Fin 50), Finset.sum_eq_single (⟨q, hq⟩ : Fin 64)]
  · simp
  · intro j _ hj
    rw [if_neg (c := (j : ℕ) = q) (fun h => hj (Fin.ext h))]
    simp
  · intro h; exact absurd (Finset.mem_univ _) h
  · intro i _ hi
    refine Finset.sum_eq_zero fun j _ => ?_
    rw [if_neg (c := (i : ℕ) = p) (fun h => hi (Fin.ext h))]
    simp
  · intro h; exact absurd (Finset.mem_univ _) h

/-- A product with a sum of four nonnegative reals, spread over the four. -/
theorem mul_four (x : EReal) (a b c d : ℝ) (ha : 0 ≤ a) (hb : 0 ≤ b) (hc : 0 ≤ c) (hd : 0 ≤ d) :
    x * ((a + b + c + d : ℝ) : EReal) = x * (a : EReal) + x * (b : EReal) + x * (c : EReal) + x * (d : EReal) := by
  have e : ∀ {s t : ℝ}, 0 ≤ s → 0 ≤ t → x * ((s + t : ℝ) : EReal) = x * (s : EReal) + x * (t : EReal) := by
    intro s t hs ht
    rw [EReal.coe_add]
    exact EReal.left_distrib_of_nonneg (by exact_mod_cast hs) (by exact_mod_cast ht)
  rw [e (by positivity) hd, e (by positivity) hc, e ha hb]

/-- The two-dimensional interpolation: the sum over the whole padded map is the sum over the four neighbours. -/
theorem interp (F : ℕ → ℕ → EReal) (r s : ℝ) (hr : 0 ≤ r) (hs : 0 ≤ s) :
    (∑ i : Fin 50, ∑ j : Fin 64, F i j * (((hat i (clampC r) : ℝ) : EReal) * ((hat j (clampC s) : ℝ) : EReal)))
      = ((1 - Int.fract r : ℝ) : EReal) * ((1 - Int.fract s : ℝ) : EReal) * F (lo r) (lo s)
        + ((1 - Int.fract r : ℝ) : EReal) * ((Int.fract s : ℝ) : EReal) * F (lo r) (hi s)
        + ((Int.fract r : ℝ) : EReal) * ((1 - Int.fract s : ℝ) : EReal) * F (hi r) (lo s)
        + ((Int.fract r : ℝ) : EReal) * ((Int.fract s : ℝ) : EReal) * F (hi r) (hi s) := by
  have a0 := Int.fract_nonneg r
  have a1 : 0 ≤ 1 - Int.fract r := by linarith [Int.fract_lt_one r]
  have b0 := Int.fract_nonneg s
  have b1 : 0 ≤ 1 - Int.fract s := by linarith [Int.fract_lt_one s]
  have n : ∀ (c : Prop) [Decidable c] {t : ℝ}, 0 ≤ t → 0 ≤ (if c then t else 0 : ℝ) := by
    intro c _ t ht; split
    · exact ht
    · exact le_rfl
  have hlr := lo_lt r; have hhr := hi_lt r
  have hls : lo s < 64 := lt_trans (lo_lt s) (by norm_num)
  have hhs : hi s < 64 := lt_trans (hi_lt s) (by norm_num)
  have step : ∀ (i : Fin 50) (j : Fin 64),
      F i j * (((hat i (clampC r) : ℝ) : EReal) * ((hat j (clampC s) : ℝ) : EReal))
        = F i j * (((if (i : ℕ) = lo r then 1 - Int.fract r else 0) * (if (j : ℕ) = lo s then 1 - Int.fract s else 0) : ℝ) : EReal)
          + F i j * (((if (i : ℕ) = lo r then 1 - Int.fract r else 0) * (if (j : ℕ) = hi s then Int.fract s else 0) : ℝ) : EReal)
          + F i j * (((if (i : ℕ) = hi r then Int.fract r else 0) * (if (j : ℕ) = lo s then 1 - Int.fract s else 0) : ℝ) : EReal)
          + F i j * (((if (i : ℕ) = hi r then Int.fract r else 0) * (if (j : ℕ) = hi s then Int.fract s else 0) : ℝ) : EReal) := by
    intro i j
    rw [← mul_four _ _ _ _ _ (mul_nonneg (n _ a1) (n _ b1)) (mul_nonneg (n _ a1) (n _ b0))
      (mul_nonneg (n _ a0) (n _ b1)) (mul_nonneg (n _ a0) (n _ b0)), ← EReal.coe_mul, hat_split r hr, hat_split s hs]
    congr 2
    ring
  simp only [step, Finset.sum_add_distrib]
  rw [sum_at F _ _ hlr hls, sum_at F _ _ hlr hhs, sum_at F _ _ hhr hls, sum_at F _ _ hhr hhs]
  simp only [EReal.coe_mul]
  rw [mul_comm (F (lo r) (lo s)), mul_comm (F (lo r) (hi s)), mul_comm (F (hi r) (lo s)), mul_comm (F (hi r) (hi s))]

/-! ## Numbers -/

/-- A word below the word of plus infinity denotes a nonnegative real. -/
theorem ofBits_nonneg (b : BitVec 32) (h : b.toNat < 0x7F800000) : ∃ r : ℝ, 0 ≤ r ∧ Ideal.ofBits .f32 b = (r : EReal) := by
  have hs : (b.extractLsb' 31 1 == 1#1) = false := by
    rw [beq_eq_false_iff_ne]
    intro hc
    have := congrArg BitVec.toNat hc
    simp [BitVec.extractLsb'_toNat, Nat.shiftRight_eq_div_pow] at this
    omega
  have he : ¬ (b.extractLsb' 23 8).toNat = 2 ^ 8 - 1 := by
    simp [BitVec.extractLsb'_toNat, Nat.shiftRight_eq_div_pow]
    omega
  show ∃ r : ℝ, 0 ≤ r ∧ Ideal.ieee 8 23 b = (r : EReal)
  unfold Ideal.ieee
  simp only [hs, he, if_false, Bool.false_eq_true]
  split
  · exact ⟨_, by positivity, rfl⟩
  · exact ⟨_, by positivity, rfl⟩

/-- The word of one sixteenth. -/
theorem ofBits_sixteenth : Ideal.ofBits .f32 0x3D800000#32 = ((1 / 16 : ℝ) : EReal) := by
  show Ideal.ieee 8 23 (0x3D800000#32) = _
  unfold Ideal.ieee
  simp [BitVec.extractLsb'_toNat]
  norm_num
  rw [← EReal.coe_mul]
  norm_num

/-- The word of plus infinity. -/
theorem ofBits_inf : Ideal.ofBits .f32 0x7F800000#32 = ⊤ := by
  show Ideal.ieee 8 23 (0x7F800000#32) = _
  unfold Ideal.ieee
  simp

/-- The coordinate of the sample at step `t` of a side that starts at `p` and has length `w`, image numbers. -/
def coord (p w t : EReal) : EReal :=
  Ideal.liftRound Int.floor (p * Ideal.ofBits .f32 0x3D800000#32)
    + t * (Ideal.liftRound Int.ceil (w * Ideal.ofBits .f32 0x3D800000#32) - Ideal.ofBits .f32 0x3F800000#32)

/-- On a proper side the coordinate is a nonnegative real. -/
theorem coord_real (p w t : EReal) (hp : 0 ≤ p) (hp' : p < ⊤) (hw : 0 < w) (hw' : w < ⊤)
    (ht : ∃ r : ℝ, 0 ≤ r ∧ t = (r : EReal)) : ∃ r : ℝ, 0 ≤ r ∧ coord p w t = (r : EReal) := by
  obtain ⟨t, ht, rfl⟩ := ht
  lift p to ℝ using ⟨hp'.ne, (lt_of_lt_of_le EReal.bot_lt_zero hp).ne'⟩
  lift w to ℝ using ⟨hw'.ne, (lt_trans EReal.bot_lt_zero hw).ne'⟩
  have hp0 : 0 ≤ p := by exact_mod_cast hp
  have hw0 : 0 < w := by exact_mod_cast hw
  refine ⟨(⌊p * (1 / 16)⌋ : ℝ) + t * ((⌈w * (1 / 16)⌉ : ℝ) - 1), ?_, ?_⟩
  · have h1 : (0 : ℝ) ≤ (⌊p * (1 / 16)⌋ : ℝ) := by exact_mod_cast Int.floor_nonneg.2 (by positivity)
    have h2 : (1 : ℝ) ≤ (⌈w * (1 / 16)⌉ : ℝ) := by exact_mod_cast Int.one_le_ceil_iff.2 (by positivity)
    have h3 : (0 : ℝ) ≤ t * ((⌈w * (1 / 16)⌉ : ℝ) - 1) := mul_nonneg ht (by linarith)
    linarith
  · unfold coord
    rw [ofBits_sixteenth, Ideal.ofBits_one_f32, ← EReal.coe_mul, ← EReal.coe_mul]
    show ((⌊p * (1 / 16)⌋ : ℝ) : EReal) + (t : EReal) * (((⌈w * (1 / 16)⌉ : ℝ) : EReal) - 1) = _
    rw [← EReal.coe_one, ← EReal.coe_sub, ← EReal.coe_mul, ← EReal.coe_add]

/-! ## The pixel as a word -/

/-- Clamped between 0 and 49, as the reference clips an index. -/
def clipW (x : BitVec 32) : BitVec 32 := IntOp.minsi 49#32 (IntOp.maxsi 0#32 x)

/-- A small word, read as a signed number. -/
theorem toInt_small (k : ℕ) (hk : k < 2 ^ 31) : (BitVec.ofNat 32 k).toInt = k := by
  rw [BitVec.toInt_eq_toNat_of_lt] <;> rw [BitVec.toNat_ofNat, Nat.mod_eq_of_lt (by omega)] ; omega

/-- The clip of a small word. -/
theorem clipW_ofNat (k : ℕ) (hk : k < 2 ^ 31) : clipW (BitVec.ofNat 32 k) = BitVec.ofNat 32 (min k 49) := by
  unfold clipW IntOp.minsi IntOp.maxsi
  have h0 : (BitVec.ofNat 32 k).slt 0#32 = false := by
    rw [BitVec.slt, toInt_small k hk]; simp
  rw [h0]
  simp only [Bool.false_eq_true, if_false]
  rw [BitVec.slt, toInt_small k hk]
  rcases lt_or_ge 49 k with h | h
  · rw [if_pos (by simpa using (by exact_mod_cast h)), min_eq_right h.le]
  · rw [if_neg (by simpa using (by exact_mod_cast h)), min_eq_left h]

/-- The index of the first pixel, as the reference computes it. -/
theorem clipW_floor (r : ℝ) (hr : 0 ≤ r) :
    clipW (Ideal.fptosi 32 (((⌊r⌋ : ℝ) : EReal))) = BitVec.ofNat 32 (lo r) := by
  have hz : (0 : ℝ) ≤ (⌊r⌋ : ℝ) := by exact_mod_cast Int.floor_nonneg.2 hr
  have hn : ⌊r⌋ = ((⌊r⌋₊ : ℕ) : ℤ) := (Int.natCast_floor_eq_floor hr).symm
  have e : Ideal.fptosi 32 (((⌊r⌋ : ℝ) : EReal)) = BitVec.ofNat 32 (min ⌊r⌋₊ (2 ^ 31 - 1)) := by
    show BitVec.ofInt 32 (max _ (min _ (if (0 : ℝ) ≤ (⌊r⌋ : ℝ) then ⌊(⌊r⌋ : ℝ)⌋ else ⌈(⌊r⌋ : ℝ)⌉))) = _
    rw [if_pos hz, Int.floor_intCast, hn, ← BitVec.ofInt_natCast]
    congr 1
    push_cast
    omega
  rw [e, clipW_ofNat _ (by omega)]
  unfold lo
  congr 1
  omega

/-- The index of the second pixel. -/
theorem clipW_next (r : ℝ) : clipW (IntOp.addi (BitVec.ofNat 32 (lo r)) 1#32) = BitVec.ofNat 32 (hi r) := by
  have h := lo_lt r
  have e : IntOp.addi (BitVec.ofNat 32 (lo r)) 1#32 = BitVec.ofNat 32 (lo r + 1) := by
    unfold IntOp.addi
    rw [BitVec.ofNat_add]
  rw [e, clipW_ofNat _ (by omega)]
  rfl

/-- An index that is not negative is used as it is. -/
theorem wrap_small (k : ℕ) (hk : k < 50) :
    Scalar.select (IntOp.cmpi .slt (BitVec.ofNat 32 k) 0#32) (IntOp.addi (BitVec.ofNat 32 k) 50#32) (BitVec.ofNat 32 k)
      = BitVec.ofNat 32 k := by
  have h0 : (BitVec.ofNat 32 k).slt 0#32 = false := by
    rw [BitVec.slt, toInt_small k (by omega)]; simp
  unfold Scalar.select IntOp.cmpi
  simp [h0]

end Cert.Roi

end
-- ==== Proof.KernelBlock.lean ====
/-
  What one grid step of the kernel computes, at an index: the product of the padded feature map with the matrix of
  weights, and the largest of the four samples of each cell.
-/
module

public import proofs.«01_k».proof.Proof.Gen.KernelIdeal.Frame
public import proofs.«01_k».proof.Proof.Interp
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.Roi

open Idealize.ShloMosaic Idealize.SL.Sem Cert.KernelIdeal Cert.KernelIdeal.Gen
open scoped BigOperators

/-- The larger of two real numbers, among the extended ones. -/
theorem coe_max (a b : ℝ) : ((max a b : ℝ) : EReal) = max (a : EReal) (b : EReal) :=
  EReal.coe_strictMono.monotone.map_max

/-- The weight of pixel `k` for a sample at `x`, as the kernel computes it. -/
def wt (k : ℕ) (x : EReal) : EReal :=
  max (1 - FloatOps.absf (F := Ideal) (φ := .f32) (FloatOps.sitofp (F := Ideal) .f32 (BitVec.ofNat 32 k) - x)) 0

/-- At a real sample it is the weight of the real numbers. -/
theorem wt_coe (k : ℕ) (hk : k < 64) (r : ℝ) : wt k (r : EReal) = ((hat k r : ℝ) : EReal) := by
  have h : FloatOps.sitofp (F := Ideal) .f32 (BitVec.ofNat 32 k) = ((k : ℝ) : EReal) := by
    show ((((BitVec.ofNat 32 k).toInt : ℝ)) : EReal) = _
    rw [toInt_small k (by omega)]
    norm_cast
  unfold wt hat
  rw [h]
  show max (1 - max (((k : ℝ) : EReal) - (r : EReal)) (-(((k : ℝ) : EReal) - (r : EReal)))) 0 = _
  rw [abs_eq_max_neg, ← EReal.coe_sub, ← EReal.coe_neg, ← EReal.coe_one, ← EReal.coe_zero,
    ← coe_max, ← EReal.coe_sub, ← coe_max]

/-- The product of a step at a channel and a column. -/
theorem prod_apply (v0 : Vec Ideal S1x256x3200 .bf16) (v2 v4 : Vec Ideal S1x1x1x6272 .f32) (ch : Fin 256) (col : Fin 6272) :
    k0_pay2 (F := Ideal) v0 v2 v4 (ix2 ch col)
      = ∑ x : Fin 3200, v0 (ix3 0 ch x) * (wt (x / 64) (v2 (ix4 0 0 0 col)) * wt (x % 64) (v4 (ix4 0 0 0 col))) := by
  pointwise [k0_pay2, wt]

/-- The sum over the columns of the map, row by row. -/
theorem sum_rows (f : ℕ → ℕ → EReal) :
    (∑ x : Fin 3200, f (x / 64) (x % 64)) = ∑ i : Fin 50, ∑ j : Fin 64, f i j := by
  rw [Fin.sum_univ_tiles 50 64 (by norm_num)]
  refine Finset.sum_congr rfl fun i _ => Finset.sum_congr rfl fun j _ => ?_
  have hj := j.isLt
  congr 1 <;> simp <;> omega

/-- The largest of the four samples of cell `ij` of box `p`, in a product's row of columns. -/
def cellmax (o : FVec Ideal S256x6272 .bf16) (p : ℕ) (hp : p < 32) (ch : Fin 256) (ij : Fin 49) : EReal :=
  max (max (o (ix2 ch ⟨196 * p + ij, by omega⟩)) (o (ix2 ch ⟨196 * p + 49 + ij, by omega⟩)))
    (max (o (ix2 ch ⟨196 * p + 98 + ij, by omega⟩)) (o (ix2 ch ⟨196 * p + 147 + ij, by omega⟩)))

/-- The block of a step as a function of its product. -/
def blockOf (o : FVec Ideal S256x6272 .bf16) (y : S1x32x256x49.Idx) : EReal := cellmax o (y 1).val (y 1).isLt (y 2) (y 3)

/-- What one store writes is its part of that block: four slices of the product's columns, side by side. -/
theorem piece_eq (o : FVec Ideal S256x6272 .bf16) (k a b c d : ℕ)
    (ha : S256x6272.Slices ![0, a] S256x49) (hb : S256x6272.Slices ![0, b] S256x49)
    (hc : S256x6272.Slices ![0, c] S256x49) (hd : S256x6272.Slices ![0, d] S256x49)
    (h : a = 196 * k ∧ b = 196 * k + 49 ∧ c = 196 * k + 98 ∧ d = 196 * k + 147)
    (x : S1x1x256x49.Idx) (y : S1x32x256x49.Idx) (h1 : (y 1).val = k + (x 1).val) (h2 : (y 2).val = 0 + (x 2).val)
    (h3 : (y 3).val = 0 + (x 3).val) :
    shapeCast S1x1x256x49 (maximumf (maximumf (extractStridedSlice S256x49 ![0, a] o ha) (extractStridedSlice S256x49 ![0, b] o hb))
        (maximumf (extractStridedSlice S256x49 ![0, c] o hc) (extractStridedSlice S256x49 ![0, d] o hd)))
      shapeCasts_S256x49_S1x1x256x49 x = blockOf o y := by
  obtain ⟨rfl, rfl, rfl, rfl⟩ := h
  have hx1 : (x 1).val < 1 := (x 1).isLt
  idx_vars x
  idx_vars y
  obtain rfl : x2 = y2 := Fin.ext (by simpa using h2.symm)
  obtain rfl : x3 = y3 := Fin.ext (by simpa using h3.symm)
  have hk : k = y1.val := by
    have h1' : y1.val = k + x1.val := h1
    omega
  subst hk
  pointwise [blockOf, cellmax]

/-- The same, at the box the store's rectangle names. -/
theorem piece_emb (o : FVec Ideal S256x6272 .bf16) (k a b c d : ℕ)
    (inb : ∀ e, (![0, k, 0, 0] : Fin 4 → ℕ) e + S1x1x256x49.size e ≤ S1x32x256x49.size e)
    (ha : S256x6272.Slices ![0, a] S256x49) (hb : S256x6272.Slices ![0, b] S256x49)
    (hc : S256x6272.Slices ![0, c] S256x49) (hd : S256x6272.Slices ![0, d] S256x49)
    (h : a = 196 * k ∧ b = 196 * k + 49 ∧ c = 196 * k + 98 ∧ d = 196 * k + 147) (x : S1x1x256x49.Idx) :
    shapeCast S1x1x256x49 (maximumf (maximumf (extractStridedSlice S256x49 ![0, a] o ha) (extractStridedSlice S256x49 ![0, b] o hb))
        (maximumf (extractStridedSlice S256x49 ![0, c] o hc) (extractStridedSlice S256x49 ![0, d] o hd)))
      shapeCasts_S256x49_S1x1x256x49 x
      = blockOf o ((Rect.unit (s := S1x32x256x49) ![0, k, 0, 0] S1x1x256x49.size inb).emb x) :=
  piece_eq o k a b c d ha hb hc hd h x _ (ValueKit.rect_emb_unit_val (s := S1x32x256x49) ![0, k, 0, 0] S1x1x256x49.size inb x 1)
    (ValueKit.rect_emb_unit_val (s := S1x32x256x49) ![0, k, 0, 0] S1x1x256x49.size inb x 2) (ValueKit.rect_emb_unit_val (s := S1x32x256x49) ![0, k, 0, 0] S1x1x256x49.size inb x 3)

set_option maxHeartbeats 800000 in
/-- The block a step leaves is the block of its product: each of the 32 stores writes its own box. -/
theorem out0_3_apply (x0 x1 : Vec Ideal S1x1x1x6272 .f32) (x2 : Vec Ideal S1x256x3200 .bf16) (y : S1x32x256x49.Idx) :
    out0_3 (F := Ideal) x0 x1 x2 y = blockOf (k0_pay2 (F := Ideal) x2 x0 x1) y := by
  have e0 : View.ld x2 r0_0 = x2 := View.ld_unit_zero (by decide) _ _
  have e1 : View.ld x0 r0_1 = x0 := View.ld_unit_zero (by decide) _ _
  have e2 : View.ld x1 r0_1 = x1 := View.ld_unit_zero (by decide) _ _
  unfold out0_3 k0_pay51
  rw [e0, e1, e2]
  unfold k0_pay3 k0_pay4
  generalize k0_pay2 (F := Ideal) x2 x0 x1 = o
  refine View.canon_apply_of_pieces (Val := Elt Ideal) (blockOf o) _ ?_ y (cover0_3 _ _ _ _ _ _ _ _ _ _ _ _ _ _ _ _ _ _ _ _ _ _ _ _ _ _ _ _ _ _ _ _ y)
  repeat' refine List.forall_mem_cons.2 ⟨?_, ?_⟩
  on_goal 33 => exact fun p hp => absurd hp List.not_mem_nil
  all_goals exact fun x => piece_emb o _ _ _ _ _ (by decide) _ _ _ _ (by decide) x

end Cert.Roi

end
-- ==== Proof.KernelEntry.lean ====
/-
  What the region of the kernel finds in the three arrays it reads: the coordinates of the samples along either axis and
  the padded map, as the lines before the region leave them.
-/
module

public import proofs.«01_k».proof.Proof.Gen.KernelIdeal.Frame
public import proofs.«01_k».proof.Proof.Interp
public import Idealize.ShloMosaic.Lib.Pointwise
public import Idealize.ShloMosaic.Lib.Claim

@[expose] public section

set_option maxRecDepth 16384

noncomputable section

namespace Cert.Roi

open Idealize.ShloMosaic Idealize.ShloMosaic.Pipeline Idealize.SL.Sem Cert.KernelIdeal Cert.KernelIdeal.Gen

variable (m : (ℓ : Loc nD τ sig) → Buf (Elt Ideal) ℓ) (c : Dev nD)

/-- The coordinates of all samples along one axis, as the lines before the region compute them from the boxes: the
    corner is component `k` of a box, the side component `k'`, and `tab` is the table of positions within a box. -/
def coordsOf (tab : Fin 196 → BitVec 32) (k k' : ℕ) (hk : S4x256x4.Slices ![0, 0, k] S4x256x1)
    (hk' : S4x256x4.Slices ![0, 0, k'] S4x256x1) (P : FVec Ideal S4x256x4 .f32) : FVec Ideal S4x256x196 .f32 :=
  minimumf (broadcastInDim S4x256x196 ![] bcast_S_S4x256x196 (sitofp .f32 (constantI S_ 32 49#32)))
    (maximumf (broadcastInDim S4x256x196 ![] bcast_S_S4x256x196 (constant S_ .f32 0x00000000#32))
      (addf (broadcastInDim S4x256x196 ![0, 1, 2] bcast_S4x256x1_S4x256x196_0_1_2
          (broadcastInDim S4x256x1 ![0, 1] bcast_S4x256_S4x256x1_0_1
            (Host.floor (mulf (shapeCast S4x256 (extractStridedSlice S4x256x1 ![0, 0, k] P hk) shapeCasts_S4x256x1_S4x256)
              (broadcastInDim S4x256 ![] bcast_S_S4x256 (constant S_ .f32 0x3D800000#32))))))
        (mulf (broadcastInDim S4x256x196 ![0, 1, 2] bcast_S1x1x196_S4x256x196_0_1_2
            (broadcastInDim S1x1x196 ![2] bcast_S196_S1x1x196_2 (fun i => FloatOps.ofBits .f32 (tab (S196.rowMajor i)))))
          (broadcastInDim S4x256x196 ![0, 1, 2] bcast_S4x256x1_S4x256x196_0_1_2
            (broadcastInDim S4x256x1 ![0, 1] bcast_S4x256_S4x256x1_0_1
              (subf (Host.ceil (mulf (shapeCast S4x256 (extractStridedSlice S4x256x1 ![0, 0, k'] P hk') shapeCasts_S4x256x1_S4x256)
                  (broadcastInDim S4x256 ![] bcast_S_S4x256 (constant S_ .f32 0x3D800000#32))))
                (broadcastInDim S4x256 ![] bcast_S_S4x256 (constant S_ .f32 0x3F800000#32))))))))

/-- The map the region reads: the features, with 14 columns of zeros after the 50. -/
def mapOf (X : FVec Ideal S4x256x50x50 .f32) : FVec Ideal S4x256x50x64 .bf16 :=
  pad S4x256x50x64 ![0, 0, 0, 0] ![0, 0, 0, 14] ![0, 0, 0, 0] (truncf (F := Ideal) .bf16 X bitsLt_bf16_f32)
    (sitofp .bf16 (constantI S_ 32 0#32)) pads_S4x256x50x50_S4x256x50x64_000_000_000_0140 h_S_

/-- The region finds the first coordinates in its first array, 32 boxes to a row. -/
theorem V_v42 : V m c main_call0_v42 = shapeCast S4x8x1x6272
    (coordsOf lit0 0 2 slices_S4x256x4_S4x256x1_0_0_0 slices_S4x256x4_S4x256x1_0_0_2 (m ((c.tc : Thread nD τ).loc main_arg0)))
    shapeCasts_S4x256x196_S4x8x1x6272 := by
  show StableHlo.after [hostOps0].flatten (fun b => m (c, b)) (Proc.tc.devRef _) = _
  simp only [hostOps0, List.flatten_cons, List.flatten_nil, List.append_nil]
  after_results
  rfl

/-- It finds the second coordinates in its second array. -/
theorem V_v43 : V m c main_call0_v43 = shapeCast S4x8x1x6272
    (coordsOf lit1 1 3 slices_S4x256x4_S4x256x1_0_0_1 slices_S4x256x4_S4x256x1_0_0_3 (m ((c.tc : Thread nD τ).loc main_arg0)))
    shapeCasts_S4x256x196_S4x8x1x6272 := by
  show StableHlo.after [hostOps0].flatten (fun b => m (c, b)) (Proc.tc.devRef _) = _
  simp only [hostOps0, List.flatten_cons, List.flatten_nil, List.append_nil]
  after_results
  rfl

/-- It finds the padded map in its third array, the rows of a channel one after another. -/
theorem V_v46 : V m c main_call0_v46 = shapeCast S4x256x3200 (mapOf (m ((c.tc : Thread nD τ).loc main_arg1)))
    shapeCasts_S4x256x50x64_S4x256x3200 := by
  show StableHlo.after [hostOps0].flatten (fun b => m (c, b)) (Proc.tc.devRef _) = _
  simp only [hostOps0, List.flatten_cons, List.flatten_nil, List.append_nil]
  after_results
  rfl

end Cert.Roi

end
-- ==== Proof.KernelRun.lean ====
/-
  The kernel's run, end to end: the sample coordinates and the padded map the region reads, the array it leaves, and the
  result the last lines make of it.
-/
module

public import proofs.«01_k».proof.Proof.KernelBlock
public import proofs.«01_k».proof.Proof.KernelEntry
public import Idealize.ShloMosaic.Lib.Claim

@[expose] public section

set_option maxRecDepth 16384

noncomputable section

namespace Cert.Roi

open Idealize.ShloMosaic Idealize.ShloMosaic.Pipeline Idealize.SL.Sem Cert.KernelIdeal Cert.KernelIdeal.Gen

variable (m : (ℓ : Loc nD τ sig) → Buf (Elt Ideal) ℓ) (c : Dev nD)

/-- The two lines after the region: the result is the region's array, reshaped and widened. -/
theorem tail_main_v0 : afterTail₀ cfgs (dats m) 0 (V0 m) [hostOps1] c main_v0
    = extf (F := Ideal) .f32 (shapeCast S4x256x256x7x7 ((dats m 0 c).arrAt 3 cfg0.N : FVec Ideal S4x256x256x49 .bf16) shapeCasts_S4x256x256x49_S4x256x256x7x7) bitsLt_bf16_f32 := by
  unfold afterTail₀
  simp only [hostOps1, List.flatten_cons, List.flatten_nil, List.append_nil]
  after_results
  have h := withArrays_arr (cfgs 0).spec (by decide) c (V0 m c) (fun w => (dats m 0 c).arrAt w (cfgs 0).N) 3
  exact congrArg (fun A : FVec Ideal S4x256x256x49 .bf16 =>
    extf (F := Ideal) .f32 (shapeCast S4x256x256x7x7 A shapeCasts_S4x256x256x49_S4x256x256x7x7) bitsLt_bf16_f32) h

/-- A sample's coordinate, clipped to the map. -/
def clipE (x : EReal) : EReal := min 49 (max 0 x)

/-- A coordinate, read at a box and a column. -/
theorem coordsOf_apply (tab : Fin 196 → BitVec 32) (k k' : Fin 4) (hk : S4x256x4.Slices ![0, 0, k] S4x256x1)
    (hk' : S4x256x4.Slices ![0, 0, k'] S4x256x1) (P : FVec Ideal S4x256x4 .f32) (b : Fin 4) (n : Fin 256) (q : Fin 196) :
    coordsOf tab k k' hk hk' P (ix3 b n q)
      = clipE (coord (P (ix3 b n k)) (P (ix3 b n k')) (Ideal.ofBits .f32 (tab q))) := by
  have h49 : FloatOps.sitofp (F := Ideal) .f32 49#32 = (49 : EReal) := by
    show ((((49#32 : BitVec 32).toInt : ℝ)) : EReal) = 49
    rw [show (49#32 : BitVec 32).toInt = 49 by decide]
    norm_cast
  have hq : S196.rowMajor (ix1 q) = q := Fin.ext (rowMajor_val1 (ix1 q))
  pointwise [coordsOf, clipE, coord]
  rw [h49, hq]

/-- The padded map at a pixel: the map, and zero beyond its last column. -/
theorem mapOf_apply (X : FVec Ideal S4x256x50x50 .f32) (b : Fin 4) (ch : Fin 256) (i : Fin 50) (j : Fin 64) :
    mapOf X (ix4 b ch i j) = if h : j.val < 50 then X (ix4 b ch i ⟨j, h⟩) else 0 := by
  have h0 : FloatOps.sitofp (F := Ideal) .bf16 0#32 = (0 : EReal) := by
    show ((((0#32 : BitVec 32).toInt : ℝ)) : EReal) = 0
    simp
  pointwise [mapOf]
  rw [h0]

/-! ## The blocks of the windows -/

/-- The blocks that a step of the grid reads and writes. -/
theorem index0 : ∀ t : Fin cfg0.N, (cfg0.win 0).index t = ![t.val / 8, t.val % 8, 0, 0] := by decide +kernel
theorem index1 : ∀ t : Fin cfg0.N, (cfg0.win 1).index t = ![t.val / 8, t.val % 8, 0, 0] := by decide +kernel
theorem index2 : ∀ t : Fin cfg0.N, (cfg0.win 2).index t = ![t.val / 8, 0, 0] := by decide +kernel
theorem index3 : ∀ t : Fin cfg0.N, (cfg0.win 3).index t = ![t.val / 8, t.val % 8, 0, 0] := by decide +kernel

/-- The grid point of a batch element and a row of 32 boxes. -/
def pt (b : Fin 4) (nn : Fin 8) : Fin cfg0.N := ⟨8 * b + nn, by show _ < 32; omega⟩

/-- A step's map, off its number. -/
theorem pt_div (b : Fin 4) (nn : Fin 8) : (pt b nn).val / 8 = b := by
  show (8 * b.val + nn.val) / 8 = b
  omega

/-- A step's row of boxes, off its number. -/
theorem pt_mod (b : Fin 4) (nn : Fin 8) : (pt b nn).val % 8 = nn := by
  show (8 * b.val + nn.val) % 8 = nn
  omega

/-- A step's first coordinates are a row of the first array. -/
theorem iblk0_apply (b : Fin 4) (nn : Fin 8) (col : Fin 6272) :
    iblk m c 0 (pt b nn) (ix4 0 0 0 col) = (V m c main_call0_v42 : FVec Ideal S4x8x1x6272 .f32) (ix4 b nn 0 col) := by
  have e : ((cfg0.win 0).blk (pt b nn)).view.emb (ix4 0 0 0 col) = ix4 b nn 0 col := by
    funext a
    apply Fin.ext
    refine (Window.rect_emb_val (cfg0.win 0) (pt b nn) (ix4 0 0 0 col) a rfl).trans ?_
    rw [index0, pt_div, pt_mod]
    fin_cases a <;> simp
  show V m c main_call0_v42 (((cfg0.win 0).blk (pt b nn)).view.emb _) = _
  rw [e]

/-- Its second coordinates are a row of the second. -/
theorem iblk1_apply (b : Fin 4) (nn : Fin 8) (col : Fin 6272) :
    iblk m c 1 (pt b nn) (ix4 0 0 0 col) = (V m c main_call0_v43 : FVec Ideal S4x8x1x6272 .f32) (ix4 b nn 0 col) := by
  have e : ((cfg0.win 1).blk (pt b nn)).view.emb (ix4 0 0 0 col) = ix4 b nn 0 col := by
    funext a
    apply Fin.ext
    refine (Window.rect_emb_val (cfg0.win 1) (pt b nn) (ix4 0 0 0 col) a rfl).trans ?_
    rw [index1, pt_div, pt_mod]
    fin_cases a <;> simp
  show V m c main_call0_v43 (((cfg0.win 1).blk (pt b nn)).view.emb _) = _
  rw [e]

/-- Its map is the batch element's. -/
theorem iblk2_apply (b : Fin 4) (nn : Fin 8) (ch : Fin 256) (x : Fin 3200) :
    iblk m c 2 (pt b nn) (ix3 0 ch x) = (V m c main_call0_v46 : FVec Ideal S4x256x3200 .bf16) (ix3 b ch x) := by
  have e : ((cfg0.win 2).blk (pt b nn)).view.emb (ix3 0 ch x) = ix3 b ch x := by
    funext a
    apply Fin.ext
    refine (Window.rect_emb_val (cfg0.win 2) (pt b nn) (ix3 0 ch x) a rfl).trans ?_
    rw [index2, pt_div]
    fin_cases a <;> simp
  show V m c main_call0_v46 (((cfg0.win 2).blk (pt b nn)).view.emb _) = _
  rw [e]

/-- The block a grid point leaves. -/
def blockAt (t : Fin cfg0.N) : S1x32x256x49.Idx → EReal :=
  blockOf (k0_pay2 (F := Ideal) (iblk m c 2 t) (iblk m c 0 t) (iblk m c 1 t))

/-- The row of 32 boxes a box is in. -/
abbrev rowOf (n : Fin 256) : Fin 8 := ⟨n / 32, by omega⟩

/-- The place of a box in its row. -/
abbrev inRow (n : Fin 256) : Fin 32 := ⟨n % 32, by omega⟩

/-- The array the region leaves, from the blocks. -/
def arr3 : FVec Ideal S4x256x256x49 .bf16 := fun y =>
  blockAt m c (pt (y 0) (rowOf (y 1))) (ix4 0 (inRow (y 1)) (y 2) (y 3))

/-- Where the array is under an index of a point's block, it is the block there. -/
theorem blockAt_eq (t : Fin cfg0.N) (y : S1x32x256x49.Idx) (z : S4x256x256x49.Idx)
    (e0 : (z 0).val = t.val / 8 * 1 + (y 0).val) (e1 : (z 1).val = t.val % 8 * 32 + (y 1).val)
    (e2 : (z 2).val = 0 * 256 + (y 2).val) (e3 : (z 3).val = 0 * 49 + (y 3).val) :
    blockAt m c t y = arr3 m c z := by
  have ht : t.val < 32 := t.isLt
  have hy0 : (y 0).val < 1 := (y 0).isLt
  have hy1 : (y 1).val < 32 := (y 1).isLt
  have et : t = pt (z 0) (rowOf (z 1)) := by
    apply Fin.ext
    show t.val = 8 * (z 0).val + (z 1).val / 32
    omega
  have ey : y = ix4 0 (inRow (z 1)) (z 2) (z 3) := by
    funext a
    apply Fin.ext
    match a with
    | ⟨0, _⟩ => show (y 0).val = 0; omega
    | ⟨1, _⟩ => show (y 1).val = (z 1).val % 32; omega
    | ⟨2, _⟩ => show (y 2).val = (z 2).val; omega
    | ⟨3, _⟩ => show (y 3).val = (z 3).val; omega
  unfold arr3
  rw [← et]
  exact congrArg (blockAt m c t) ey

/-- The region's array ends holding it. -/
theorem final3 : (dats m 0 c).arrAt 3 cfg0.N = arr3 m c := by
  refine (dats m 0 c).arrAt_eq_of_covers 3 (arr3 m c) (by decide +kernel) fun t hf y => ?_
  have e : ∀ a, (((cfg0.win 3).blk t).view.emb y a).val
      = (![t.val / 8, t.val % 8, 0, 0] : Fin 4 → ℕ) a * (cfg0.win 3).size a + (y a).val := fun a => by
    refine (Window.rect_emb_val (cfg0.win 3) t y a rfl).trans ?_
    rw [index3]
  have e0 : (((cfg0.win 3).blk t).view.emb y 0).val = t.val / 8 * 1 + (y 0).val := e 0
  have e1 : (((cfg0.win 3).blk t).view.emb y 1).val = t.val % 8 * 32 + (y 1).val := e 1
  have e2 : (((cfg0.win 3).blk t).view.emb y 2).val = 0 * 256 + (y 2).val := e 2
  have e3 : (((cfg0.win 3).blk t).view.emb y 3).val = 0 * 49 + (y 3).val := e 3
  clear e
  show (dats m 0 c).after 3 t y = arr3 m c (((cfg0.win 3).blk t).view.emb y)
  rw [after0_3, out0_3_apply]
  exact blockAt_eq m c t y _ e0 e1 e2 e3

end Cert.Roi

end
-- ==== Proof.KernelValue.lean ====
/-
  The result of the kernel, element by element: the largest of four samples, each a sum over the pixels of the map.
-/
module

public import proofs.«01_k».proof.Proof.KernelRun
public import Idealize.ShloMosaic.Lib.Claim

@[expose] public section

set_option maxRecDepth 16384

noncomputable section

namespace Cert.Roi

open Idealize.ShloMosaic Idealize.ShloMosaic.Pipeline Idealize.SL.Sem Cert.KernelIdeal Cert.KernelIdeal.Gen

variable (m : (ℓ : Loc nD τ sig) → Buf (Elt Ideal) ℓ) (c : Dev nD)

/-- A pixel of a channel, zero outside the 50 by 50 map. -/
def pixel (X : FVec Ideal S4x256x50x50 .f32) (b : Fin 4) (ch : Fin 256) (i j : ℕ) : EReal :=
  if h : i < 50 ∧ j < 50 then X (ix4 b ch ⟨i, h.1⟩ ⟨j, h.2⟩) else 0

/-- The flattened map is the channel's pixels, row by row. -/
theorem map_flat (X : FVec Ideal S4x256x50x50 .f32) (b : Fin 4) (ch : Fin 256) (x : Fin 3200) :
    shapeCast S4x256x3200 (mapOf X) shapeCasts_S4x256x50x64_S4x256x3200 (ix3 b ch x) = pixel X b ch (x / 64) (x % 64) := by
  have hx : x.val / 64 < 50 := by omega
  pointwise
  rw [mapOf_apply]
  unfold pixel
  by_cases h : x.val % 64 < 50
  · rw [dif_pos h, dif_pos ⟨hx, h⟩]
  · rw [dif_neg h, dif_neg (fun h' => h h'.2)]

/-- A row of the coordinates: 32 boxes of 196 samples. -/
theorem coords_flat (v : FVec Ideal S4x256x196 .f32) (b : Fin 4) (n : Fin 256) (q : Fin 196) (col : Fin 6272)
    (h : col.val = 196 * (n % 32) + q) :
    shapeCast S4x8x1x6272 v shapeCasts_S4x256x196_S4x8x1x6272 (ix4 b (rowOf n) 0 col) = v (ix3 b n q) := by
  pointwise
  congr 2
  · exact Fin.ext (by simp only [h]; omega)
  · exact Fin.ext (by simp only [h]; omega)

/-- The result's cells are the array's last axis, seven to a row. -/
theorem out_flat (v : FVec Ideal S4x256x256x49 .bf16) (b : Fin 4) (n ch : Fin 256) (i j : Fin 7) :
    extf (F := Ideal) .f32 (shapeCast S4x256x256x7x7 v shapeCasts_S4x256x256x49_S4x256x256x7x7) bitsLt_bf16_f32 (ix5 b n ch i j)
      = v (ix4 b n ch ⟨7 * i + j, by omega⟩) := by
  pointwise
  congr 2
  exact Fin.ext (by show i.val * 7 + j.val = 7 * i.val + j.val; omega)

/-- The row of a sample of a box. -/
def rowE (P : FVec Ideal S4x256x4 .f32) (b : Fin 4) (n : Fin 256) (q : Fin 196) : EReal :=
  clipE (coord (P (ix3 b n 0)) (P (ix3 b n 2)) (Ideal.ofBits .f32 (lit0 q)))

/-- The column of a sample of a box. -/
def colE (P : FVec Ideal S4x256x4 .f32) (b : Fin 4) (n : Fin 256) (q : Fin 196) : EReal :=
  clipE (coord (P (ix3 b n 1)) (P (ix3 b n 3)) (Ideal.ofBits .f32 (lit1 q)))

/-- A sample: every pixel with its weight. -/
def weighted (P : FVec Ideal S4x256x4 .f32) (X : FVec Ideal S4x256x50x50 .f32) (b : Fin 4) (n ch : Fin 256) (q : Fin 196) : EReal :=
  ∑ i : Fin 50, ∑ j : Fin 64, pixel X b ch i j * (wt i (rowE P b n q) * wt j (colE P b n q))

/-- The product of the step of a box's row, at the column of one of the box's samples. -/
theorem prod_value (b : Fin 4) (n ch : Fin 256) (q : Fin 196) (col : Fin 6272) (h : col.val = 196 * (n % 32) + q) :
    k0_pay2 (F := Ideal) (iblk m c 2 (pt b (rowOf n))) (iblk m c 0 (pt b (rowOf n))) (iblk m c 1 (pt b (rowOf n))) (ix2 ch col)
      = weighted (m ((c.tc : Thread nD τ).loc main_arg0)) (m ((c.tc : Thread nD τ).loc main_arg1)) b n ch q := by
  rw [prod_apply, iblk0_apply, iblk1_apply, V_v42, V_v43]
  simp only [iblk2_apply]
  rw [coords_flat _ b n q col h, coords_flat _ b n q col h]
  have hv : ∀ x : Fin 3200, (V m c main_call0_v46 : FVec Ideal S4x256x3200 .bf16) (ix3 b ch x)
      = pixel (m ((c.tc : Thread nD τ).loc main_arg1)) b ch (x / 64) (x % 64) := fun x => by
    rw [V_v46]
    exact map_flat _ b ch x
  simp only [hv]
  have h0 := coordsOf_apply lit0 0 2 slices_S4x256x4_S4x256x1_0_0_0 slices_S4x256x4_S4x256x1_0_0_2 (m ((c.tc : Thread nD τ).loc main_arg0)) b n q
  have h1 := coordsOf_apply lit1 1 3 slices_S4x256x4_S4x256x1_0_0_1 slices_S4x256x4_S4x256x1_0_0_3 (m ((c.tc : Thread nD τ).loc main_arg0)) b n q
  refine Eq.trans (Finset.sum_congr rfl fun x _ => ?_) (sum_rows fun i j =>
    pixel (m ((c.tc : Thread nD τ).loc main_arg1)) b ch i j
      * (wt i (rowE (m ((c.tc : Thread nD τ).loc main_arg0)) b n q) * wt j (colE (m ((c.tc : Thread nD τ).loc main_arg0)) b n q)))
  exact congrArg₂ (fun r s => pixel (m ((c.tc : Thread nD τ).loc main_arg1)) b ch (x / 64) (x % 64) * (wt (x / 64) r * wt (x % 64) s)) h0 h1

/-- The kernel's result at a cell: the largest of its four samples. -/
def cellK (P : FVec Ideal S4x256x4 .f32) (X : FVec Ideal S4x256x50x50 .f32) (b : Fin 4) (n ch : Fin 256) (i j : Fin 7) : EReal :=
  max (max (weighted P X b n ch ⟨7 * i + j, by omega⟩) (weighted P X b n ch ⟨49 + (7 * i + j), by omega⟩))
    (max (weighted P X b n ch ⟨98 + (7 * i + j), by omega⟩) (weighted P X b n ch ⟨147 + (7 * i + j), by omega⟩))

/-- The region's array at a cell. -/
theorem arr3_apply (b : Fin 4) (n ch : Fin 256) (i j : Fin 7) :
    arr3 m c (ix4 b n ch ⟨7 * i + j, by omega⟩)
      = cellK (m ((c.tc : Thread nD τ).loc main_arg0)) (m ((c.tc : Thread nD τ).loc main_arg1)) b n ch i j := by
  show cellmax (k0_pay2 (F := Ideal) (iblk m c 2 (pt b (rowOf n))) (iblk m c 0 (pt b (rowOf n))) (iblk m c 1 (pt b (rowOf n))))
    (n.val % 32) (Nat.mod_lt _ (by norm_num)) ch ⟨7 * i + j, by omega⟩ = _
  unfold cellmax cellK
  rw [prod_value m c b n ch ⟨7 * i + j, by omega⟩ _ rfl,
    prod_value m c b n ch ⟨49 + (7 * i + j), by omega⟩ _ (Nat.add_assoc _ _ _),
    prod_value m c b n ch ⟨98 + (7 * i + j), by omega⟩ _ (Nat.add_assoc _ _ _),
    prod_value m c b n ch ⟨147 + (7 * i + j), by omega⟩ _ (Nat.add_assoc _ _ _)]

/-- The kernel's result. -/
def resultK (P : FVec Ideal S4x256x4 .f32) (X : FVec Ideal S4x256x50x50 .f32) : FVec Ideal S4x256x256x7x7 .f32 :=
  fun y => cellK P X (y 0) (y 1) (y 2) (y 3) (y 4)

/-- The kernel runs, ends with its result at that function of the arguments, and leaves the arguments alone. -/
theorem run_kernel (ρ : Dev nD → PrngReg) : θ_run (defs (F := Ideal)) (onTc (τ := τ) (main (F := Ideal))) ⟨m, fun _ => 0, ρ⟩ fun r => ∀ c : Dev nD,
    r.2.mem ((c.tc : Thread nD τ).loc main_v0)
      = resultK (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v0 (mem_restRefs_of main_v0 (by decide) (by decide))).trans ((tail_main_v0 m c).trans ?_)
    rw [final3]
    funext y
    idx_vars y
    exact (out_flat _ _ _ _ _ _).trans (arr3_apply m c _ _ _ _ _)
  · exact ((h c).2 main_arg0 (mem_restRefs_of main_arg0 (by decide) (by decide))).trans (W_main_arg0 m (dats m) c)
  · exact ((h c).2 main_arg1 (mem_restRefs_of main_arg1 (by decide) (by decide))).trans (W_main_arg1 m (dats m) c)

end Cert.Roi

end
-- ==== Proof.RefGather.lean ====
/-
  What the reference reads from its arrays, one entry at a time: the map at the neighbours of a sample, the weights of the
  neighbours, and the coordinates of the samples.
-/
module

public import proofs.«01_k».proof.Proof.Interp
public import proofs.«01_k».proof.Proof.Gen.ReferenceIdeal.Run
public import Idealize.ShloMosaic.Lib.Pointwise
public import Idealize.ShloMosaic.Lib.Claim

@[expose] public section

set_option maxRecDepth 16384

noncomputable section

namespace Cert.Roi

open Idealize.ShloMosaic Idealize.ShloMosaic.Pipeline Idealize.SL.Sem
open Cert.ReferenceIdeal Cert.ReferenceIdeal.Gen

/-- Where the reference reads the map: at the row and the column that the index array holds. -/
theorem gather_cell (X : FVec Ideal S4x256x50x50 .f32) (idx : IVec S4x256x14x14x2 32) (b : Fin 4) (n ch : Fin 256) (i j : Fin 14)
    (p q : Fin 50) (hp : idx (ix5 b n i j 0) = BitVec.ofNat 32 p) (hq : idx (ix5 b n i j 1) = BitVec.ofNat 32 q) :
    Host.gather gather_S4x256x50x50_S4x256x14x14x2_S4x256x256x14x14_1_23_0_0_23_4_125611 X idx (ix5 b ch n i j) = X (ix4 b ch p q) := by
  unfold Host.gather
  refine congrArg X (funext fun a => Fin.ext ?_)
  have s0 : GatherDims.siIdx gather_S4x256x50x50_S4x256x14x14x2_S4x256x256x14x14_1_23_0_0_23_4_125611 (ix5 b ch n i j) ⟨0, by decide⟩
      = ix5 b n i j 0 := by
    funext a; fin_cases a <;> rfl
  have s1 : GatherDims.siIdx gather_S4x256x50x50_S4x256x14x14x2_S4x256x256x14x14_1_23_0_0_23_4_125611 (ix5 b ch n i j) ⟨1, by decide⟩
      = ix5 b n i j 1 := by
    funext a; fin_cases a <;> rfl
  show GatherDims.start _ (ix5 b ch n i j) idx a + GatherDims.batchCoord _ (ix5 b ch n i j) a + GatherDims.offCoord _ (ix5 b ch n i j) a = _
  match a with
  | ⟨0, _⟩ =>
    show 0 + b.val + 0 = b.val
    omega
  | ⟨1, _⟩ =>
    show 0 + 0 + ch.val = ch.val
    omega
  | ⟨2, _⟩ =>
    show min (idx (GatherDims.siIdx _ (ix5 b ch n i j) ⟨0, _⟩)).toInt.toNat 49 + 0 + 0 = p.val
    rw [s0, hp, toInt_small _ (by omega)]
    omega
  | ⟨3, _⟩ =>
    show min (idx (GatherDims.siIdx _ (ix5 b ch n i j) ⟨1, _⟩)).toInt.toNat 49 + 0 + 0 = q.val
    rw [s1, hq, toInt_small _ (by omega)]
    omega

/-- An index array of the reference: a row word for each sample row and a column word for each sample column, a negative
    one moved up by the side of the map. -/
def cells (v : IVec S4x256x14x1 32) (u : IVec S4x256x1x14 32) : IVec S4x256x14x14x2 32 :=
  concatenate S4x256x14x14x2 4 [⟨S4x256x14x14x1, (broadcastInDim S4x256x14x14x1 ![0, 1, 2, 3] bcast_S4x256x14x14_S4x256x14x14x1_0_1_2_3 (broadcastInDim S4x256x14x14 ![0, 1, 2, 3] bcast_S4x256x14x1_S4x256x14x14_0_1_2_3 (select (cmpi .slt v (broadcastInDim S4x256x14x1 ![] bcast_S_S4x256x14x1 (constantI S_ 32 0#32))) (addi v (broadcastInDim S4x256x14x1 ![] bcast_S_S4x256x14x1 (constantI S_ 32 50#32))) v)))⟩, ⟨S4x256x14x14x1, (broadcastInDim S4x256x14x14x1 ![0, 1, 2, 3] bcast_S4x256x14x14_S4x256x14x14x1_0_1_2_3 (broadcastInDim S4x256x14x14 ![0, 1, 2, 3] bcast_S4x256x1x14_S4x256x14x14_0_1_2_3 (select (cmpi .slt u (broadcastInDim S4x256x1x14 ![] bcast_S_S4x256x1x14 (constantI S_ 32 0#32))) (addi u (broadcastInDim S4x256x1x14 ![] bcast_S_S4x256x1x14 (constantI S_ 32 50#32))) u)))⟩] concatenates_S4x256x14x14x1_S4x256x14x14x1_S4x256x14x14x2_d4

/-- The row word of a sample. -/
theorem cells_row (v : IVec S4x256x14x1 32) (u : IVec S4x256x1x14 32) (b : Fin 4) (n : Fin 256) (i j : Fin 14) (p : ℕ) (hp : p < 50)
    (h : v (ix4 b n i 0) = BitVec.ofNat 32 p) : cells v u (ix5 b n i j 0) = BitVec.ofNat 32 p := by
  refine Eq.trans ?_ (wrap_small p hp)
  rw [← h]
  pointwise [cells]

/-- The column word of a sample. -/
theorem cells_col (v : IVec S4x256x14x1 32) (u : IVec S4x256x1x14 32) (b : Fin 4) (n : Fin 256) (i j : Fin 14) (p : ℕ) (hp : p < 50)
    (h : u (ix4 b n 0 j) = BitVec.ofNat 32 p) : cells v u (ix5 b n i j 1) = BitVec.ofNat 32 p := by
  refine Eq.trans ?_ (wrap_small p hp)
  rw [← h]
  pointwise [cells]

/-- One neighbour's share of all samples: the product of the two weights, times the map at the neighbour. -/
def share (X : FVec Ideal S4x256x50x50 .f32) (a : FVec Ideal S4x256x14x1 .f32) (c : FVec Ideal S4x256x1x14 .f32)
    (v : IVec S4x256x14x1 32) (u : IVec S4x256x1x14 32) : FVec Ideal S4x256x256x14x14 .f32 :=
  mulf (broadcastInDim S4x256x256x14x14 ![0, 1, 2, 3, 4] bcast_S4x1x256x14x14_S4x256x256x14x14_0_1_2_3_4 (broadcastInDim S4x1x256x14x14 ![0, 2, 3, 4] bcast_S4x256x14x14_S4x1x256x14x14_0_2_3_4 (mulf (broadcastInDim S4x256x14x14 ![0, 1, 2, 3] bcast_S4x256x14x1_S4x256x14x14_0_1_2_3 a) (broadcastInDim S4x256x14x14 ![0, 1, 2, 3] bcast_S4x256x1x14_S4x256x14x14_0_1_2_3 c))))
    (Host.gather gather_S4x256x50x50_S4x256x14x14x2_S4x256x256x14x14_1_23_0_0_23_4_125611 X (cells v u))

/-- A neighbour's share of one sample. -/
theorem share_apply (X : FVec Ideal S4x256x50x50 .f32) (a : FVec Ideal S4x256x14x1 .f32) (c : FVec Ideal S4x256x1x14 .f32)
    (v : IVec S4x256x14x1 32) (u : IVec S4x256x1x14 32) (b : Fin 4) (n ch : Fin 256) (i j : Fin 14) (p q : Fin 50)
    (hp : v (ix4 b n i 0) = BitVec.ofNat 32 p) (hq : u (ix4 b n 0 j) = BitVec.ofNat 32 q) :
    share X a c v u (ix5 b ch n i j) = a (ix4 b n i 0) * c (ix4 b n 0 j) * X (ix4 b ch p q) := by
  rw [← gather_cell X (cells v u) b n ch i j p q (cells_row v u b n i j p p.isLt hp) (cells_col v u b n i j q q.isLt hq)]
  generalize hg : Host.gather gather_S4x256x50x50_S4x256x14x14x2_S4x256x256x14x14_1_23_0_0_23_4_125611 X (cells v u) = g
  unfold share
  rw [hg]
  pointwise

end Cert.Roi

end
-- ==== Proof.RefValue.lean ====
/-
  The reference's samples: each is the sum of four pixels of the map, weighted by how far the sample is from them.
-/
module

public import proofs.«01_k».proof.Proof.RefGather

@[expose] public section

set_option maxRecDepth 16384

noncomputable section

namespace Cert.Roi

open Idealize.ShloMosaic Idealize.ShloMosaic.Pipeline Idealize.SL.Sem
open Cert.ReferenceIdeal Cert.ReferenceIdeal.Gen Cert.ReferenceIdeal.Value

variable (V0 : Valuation τ sig (Elt Ideal))

/-- The boxes. -/
abbrev boxesR : FVec Ideal S4x256x4 .f32 := V0 (Proc.devRef .tc main_arg0)

/-- The map. -/
abbrev mapR : FVec Ideal S4x256x50x50 .f32 := V0 (Proc.devRef .tc main_arg1)

/-- The row of a sample row of a box. -/
def rowR (P : FVec Ideal S4x256x4 .f32) (b : Fin 4) (n : Fin 256) (i : Fin 14) : EReal :=
  coord (P (ix3 b n 0)) (P (ix3 b n 2)) (Ideal.ofBits .f32 (lit0 i))

/-- The column of a sample column of a box. -/
def colR (P : FVec Ideal S4x256x4 .f32) (b : Fin 4) (n : Fin 256) (j : Fin 14) : EReal :=
  coord (P (ix3 b n 1)) (P (ix3 b n 3)) (Ideal.ofBits .f32 (lit0 j))

/-- The table of positions within a box, at an entry. -/
theorem cst_apply (i : Fin 14) : (res_main_cst V0 : FVec Ideal S14 .f32) (ix1 i) = Ideal.ofBits .f32 (lit0 i) := by
  show Ideal.ofBits .f32 (lit0 (S14.rowMajor (ix1 i))) = _
  rw [show S14.rowMajor (ix1 i) = i from Fin.ext (rowMajor_val1 (ix1 i))]

/-- The rows of the samples. -/
theorem v29_apply (b : Fin 4) (n : Fin 256) (i : Fin 14) :
    (res_main_v29 V0 : FVec Ideal S4x256x14 .f32) (ix3 b n i) = rowR (boxesR V0) b n i := by
  have h := cst_apply V0 i
  unfold rowR
  rw [← h]
  unfold res_main_v29
  generalize res_main_cst V0 = t
  pointwise [coord]

/-- The columns of the samples. -/
theorem v39_apply (b : Fin 4) (n : Fin 256) (i : Fin 14) :
    (res_main_v39 V0 : FVec Ideal S4x256x14 .f32) (ix3 b n i) = colR (boxesR V0) b n i := by
  have h := cst_apply V0 i
  unfold colR
  rw [← h]
  unfold res_main_v39
  generalize res_main_cst V0 = t
  pointwise [coord]

/-- The word of the pixel at or before a coordinate. -/
theorem word_lo (x : EReal) (r : ℝ) (hr : 0 ≤ r) (hx : x = r) :
    clipW (Ideal.fptosi 32 (Ideal.liftRound Int.floor x)) = BitVec.ofNat 32 (lo r) := by
  rw [hx]
  exact clipW_floor r hr

/-- The part of a coordinate that is past the pixel before it. -/
theorem past (x : EReal) (r : ℝ) (hx : x = r) : x - Ideal.liftRound Int.floor x = ((Int.fract r : ℝ) : EReal) := by
  rw [hx]
  show ((r : ℝ) : EReal) - ((⌊r⌋ : ℝ) : EReal) = _
  rw [← EReal.coe_sub]
  rfl

section axis
variable (b : Fin 4) (n : Fin 256) (i : Fin 14) (r : ℝ)

/-- The row before a sample. -/
theorem v54_apply (hr : 0 ≤ r) (h : rowR (boxesR V0) b n i = r) :
    (res_main_v54 V0 : IVec S4x256x14x1 32) (ix4 b n i 0) = BitVec.ofNat 32 (lo r) := by
  rw [← word_lo _ r hr h, ← v29_apply]
  unfold res_main_v54 res_main_v45 res_main_v40
  generalize res_main_v29 V0 = t
  pointwise [clipW]
  rfl

/-- The column before a sample. -/
theorem v56_apply (hr : 0 ≤ r) (h : colR (boxesR V0) b n i = r) :
    (res_main_v56 V0 : IVec S4x256x1x14 32) (ix4 b n 0 i) = BitVec.ofNat 32 (lo r) := by
  rw [← word_lo _ r hr h, ← v39_apply]
  unfold res_main_v56 res_main_v50 res_main_v41
  generalize res_main_v39 V0 = t
  pointwise [clipW]
  rfl

/-- The row after a sample. -/
theorem v55_apply (hr : 0 ≤ r) (h : rowR (boxesR V0) b n i = r) :
    (res_main_v55 V0 : IVec S4x256x14x1 32) (ix4 b n i 0) = BitVec.ofNat 32 (hi r) := by
  rw [← clipW_next r, ← word_lo _ r hr h, ← v29_apply]
  unfold res_main_v55 res_main_v45 res_main_v40
  generalize res_main_v29 V0 = t
  pointwise [clipW]
  rfl

/-- The column after a sample. -/
theorem v57_apply (hr : 0 ≤ r) (h : colR (boxesR V0) b n i = r) :
    (res_main_v57 V0 : IVec S4x256x1x14 32) (ix4 b n 0 i) = BitVec.ofNat 32 (hi r) := by
  rw [← clipW_next r, ← word_lo _ r hr h, ← v39_apply]
  unfold res_main_v57 res_main_v50 res_main_v41
  generalize res_main_v39 V0 = t
  pointwise [clipW]
  rfl

/-- The weight of the row after a sample. -/
theorem v122_apply (h : rowR (boxesR V0) b n i = r) :
    (res_main_v122 V0 : FVec Ideal S4x256x14x1 .f32) (ix4 b n i 0) = ((Int.fract r : ℝ) : EReal) := by
  rw [← past _ r h, ← v29_apply]
  unfold res_main_v122 res_main_v40
  generalize res_main_v29 V0 = t
  pointwise

/-- The weight of the column after a sample. -/
theorem v125_apply (h : colR (boxesR V0) b n i = r) :
    (res_main_v125 V0 : FVec Ideal S4x256x1x14 .f32) (ix4 b n 0 i) = ((Int.fract r : ℝ) : EReal) := by
  rw [← past _ r h, ← v39_apply]
  unfold res_main_v125 res_main_v41
  generalize res_main_v39 V0 = t
  pointwise

/-- The weight of the row before a sample. -/
theorem v124_apply (h : rowR (boxesR V0) b n i = r) :
    (res_main_v124 V0 : FVec Ideal S4x256x14x1 .f32) (ix4 b n i 0) = ((1 - Int.fract r : ℝ) : EReal) := by
  rw [EReal.coe_sub, ← v122_apply V0 b n i r h]
  unfold res_main_v124
  generalize res_main_v122 V0 = t
  pointwise
  rfl

/-- The weight of the column before a sample. -/
theorem v127_apply (h : colR (boxesR V0) b n i = r) :
    (res_main_v127 V0 : FVec Ideal S4x256x1x14 .f32) (ix4 b n 0 i) = ((1 - Int.fract r : ℝ) : EReal) := by
  rw [EReal.coe_sub, ← v125_apply V0 b n i r h]
  unfold res_main_v127
  generalize res_main_v125 V0 = t
  pointwise
  rfl

end axis

/-- A sample at row `r` and column `s` of a channel: its four neighbours, weighted. -/
def bilinear (X : FVec Ideal S4x256x50x50 .f32) (b : Fin 4) (ch : Fin 256) (r s : ℝ) : EReal :=
  ((1 - Int.fract r : ℝ) : EReal) * ((1 - Int.fract s : ℝ) : EReal) * X (ix4 b ch ⟨lo r, lo_lt r⟩ ⟨lo s, lo_lt s⟩)
    + ((1 - Int.fract r : ℝ) : EReal) * ((Int.fract s : ℝ) : EReal) * X (ix4 b ch ⟨lo r, lo_lt r⟩ ⟨hi s, hi_lt s⟩)
    + ((Int.fract r : ℝ) : EReal) * ((1 - Int.fract s : ℝ) : EReal) * X (ix4 b ch ⟨hi r, hi_lt r⟩ ⟨lo s, lo_lt s⟩)
    + ((Int.fract r : ℝ) : EReal) * ((Int.fract s : ℝ) : EReal) * X (ix4 b ch ⟨hi r, hi_lt r⟩ ⟨hi s, hi_lt s⟩)

/-- All samples of the reference. -/
def samples : FVec Ideal S4x256x256x14x14 .f32 :=
  addf (res_main_v147 V0) (share (mapR V0) (res_main_v122 V0) (res_main_v125 V0) (res_main_v55 V0) (res_main_v57 V0))

/-- A sample of the reference is the weighted sum of its four neighbours. -/
theorem samples_apply (b : Fin 4) (n ch : Fin 256) (i j : Fin 14) (r s : ℝ) (hr : 0 ≤ r) (hs : 0 ≤ s)
    (er : rowR (boxesR V0) b n i = r) (es : colR (boxesR V0) b n j = s) :
    samples V0 (ix5 b ch n i j) = bilinear (mapR V0) b ch r s := by
  have h00 := share_apply (mapR V0) (res_main_v124 V0) (res_main_v127 V0) (res_main_v54 V0) (res_main_v56 V0) b n ch i j
    ⟨lo r, lo_lt r⟩ ⟨lo s, lo_lt s⟩ (v54_apply V0 b n i r hr er) (v56_apply V0 b n j s hs es)
  have h01 := share_apply (mapR V0) (res_main_v124 V0) (res_main_v125 V0) (res_main_v54 V0) (res_main_v57 V0) b n ch i j
    ⟨lo r, lo_lt r⟩ ⟨hi s, hi_lt s⟩ (v54_apply V0 b n i r hr er) (v57_apply V0 b n j s hs es)
  have h10 := share_apply (mapR V0) (res_main_v122 V0) (res_main_v127 V0) (res_main_v55 V0) (res_main_v56 V0) b n ch i j
    ⟨hi r, hi_lt r⟩ ⟨lo s, lo_lt s⟩ (v55_apply V0 b n i r hr er) (v56_apply V0 b n j s hs es)
  have h11 := share_apply (mapR V0) (res_main_v122 V0) (res_main_v125 V0) (res_main_v55 V0) (res_main_v57 V0) b n ch i j
    ⟨hi r, hi_lt r⟩ ⟨hi s, hi_lt s⟩ (v55_apply V0 b n i r hr er) (v57_apply V0 b n j s hs es)
  rw [v124_apply V0 b n i r er, v127_apply V0 b n j s es] at h00
  rw [v124_apply V0 b n i r er, v125_apply V0 b n j s es] at h01
  rw [v122_apply V0 b n i r er, v127_apply V0 b n j s es] at h10
  rw [v122_apply V0 b n i r er, v125_apply V0 b n j s es] at h11
  unfold bilinear
  rw [← h00, ← h01, ← h10, ← h11]
  rfl

end Cert.Roi

end
-- ==== Proof.RefRun.lean ====
/-
  The reference's result: each cell is the largest of its four samples.
-/
module

public import proofs.«01_k».proof.Proof.RefValue

@[expose] public section

set_option maxRecDepth 16384

noncomputable section

namespace Cert.Roi

open Idealize.ShloMosaic Idealize.ShloMosaic.Pipeline Idealize.SL.Sem
open Cert.ReferenceIdeal Cert.ReferenceIdeal.Gen Cert.ReferenceIdeal.Value

/-- Which result cell a sample of the array cut into cells belongs to. -/
theorem drop_cell (y0 : Fin 4) (y1 y2 : Fin 256) (y3 : Fin 7) (y4 : Fin 2) (y5 : Fin 7) (y6 : Fin 2) :
    (reducesTo_S4x256x256x7x2x7x2_S4x256x256x7x7_d4_6).drop (ix7 y0 y1 y2 y3 y4 y5 y6) = ix5 y0 y1 y2 y3 y5 := by
  funext a
  fin_cases a <;> rfl

/-- The four samples of a result cell. -/
def inCell (b : Fin 4) (n ch : Fin 256) (i j : Fin 7) : Fin 2 × Fin 2 ↪ S4x256x256x7x2x7x2.Idx where
  toFun p := ix7 b n ch i p.1 j p.2
  inj' p q h := by
    have e : ix7 b n ch i p.1 j p.2 = ix7 b n ch i q.1 j q.2 := h
    exact Prod.ext (congrFun e 4) (congrFun e 6)

/-- The samples that are dropped to a result cell are its four. -/
theorem fiber_cell (b : Fin 4) (n ch : Fin 256) (i j : Fin 7) :
    (Finset.univ.filter fun y => (reducesTo_S4x256x256x7x2x7x2_S4x256x256x7x7_d4_6).drop y = ix5 b n ch i j)
      = (Finset.univ : Finset (Fin 2 × Fin 2)).map (inCell b n ch i j) := by
  ext y
  idx_vars y
  simp only [Finset.mem_filter, Finset.mem_univ, true_and, Finset.mem_map, inCell, Function.Embedding.coeFn_mk]
  rw [drop_cell]
  constructor
  · intro h
    have h0 : y0 = b := congrFun h 0
    have h1 : y1 = n := congrFun h 1
    have h2 : y2 = ch := congrFun h 2
    have h3 : y3 = i := congrFun h 3
    have h5 : y5 = j := congrFun h 4
    subst h0 h1 h2 h3 h5
    exact ⟨(y4, y6), rfl⟩
  · rintro ⟨p, h⟩
    have h0 : b = y0 := congrFun h 0
    have h1 : n = y1 := congrFun h 1
    have h2 : ch = y2 := congrFun h 2
    have h3 : i = y3 := congrFun h 3
    have h5 : j = y5 := congrFun h 5
    rw [h0, h1, h2, h3, h5]

/-- The word of minus infinity. -/
theorem ofBits_neg_inf : Ideal.ofBits .f32 0xFF800000#32 = ⊥ := by
  show Ideal.ieee 8 23 (0xFF800000#32) = _
  unfold Ideal.ieee
  simp

/-- The maximum over the four samples of a cell, from the smallest value there is. -/
theorem reduce_cell (x : FVec Ideal S4x256x256x7x2x7x2 .f32) (b : Fin 4) (n ch : Fin 256) (i j : Fin 7) :
    Host.reduce (FloatOps.maximumf (F := Ideal) (φ := .f32)) x (constant (F := Ideal) S_ .f32 0xFF800000#32)
        reducesTo_S4x256x256x7x2x7x2_S4x256x256x7x7_d4_6 h_S_ (ix5 b n ch i j)
      = max (max (x (ix7 b n ch i 0 j 0)) (x (ix7 b n ch i 0 j 1))) (max (x (ix7 b n ch i 1 j 0)) (x (ix7 b n ch i 1 j 1))) := by
  rw [Host.reduce_eq_fold, fiber_cell, Finset.fold_map]
  have hu : (Finset.univ : Finset (Fin 2 × Fin 2)) = {(0, 0), (0, 1), (1, 0), (1, 1)} := by decide
  rw [hu, Finset.fold_insert (by decide), Finset.fold_insert (by decide), Finset.fold_insert (by decide), Finset.fold_singleton]
  show max (x (ix7 b n ch i 0 j 0)) (max (x (ix7 b n ch i 0 j 1)) (max (x (ix7 b n ch i 1 j 0))
    (max (x (ix7 b n ch i 1 j 1)) (Ideal.ofBits .f32 0xFF800000#32)))) = _
  rw [ofBits_neg_inf, max_bot_right, max_assoc]

/-- The samples cut into cells: seven rows and columns of cells, two rows and columns of samples in each. -/
theorem cut_apply (v : FVec Ideal S4x256x256x14x14 .f32) (b : Fin 4) (n ch : Fin 256) (i j : Fin 7) (p q : Fin 2) :
    shapeCast S4x256x256x7x2x7x2 (transpose S4x256x256x14x14 [0, 2, 1, 3, 4] v transposes_S4x256x256x14x14_S4x256x256x14x14_0_2_1_3_4)
        shapeCasts_S4x256x256x14x14_S4x256x256x7x2x7x2 (ix7 b n ch i p j q)
      = v (ix5 b ch n ⟨i * 2 + p, by omega⟩ ⟨j * 2 + q, by omega⟩) := by
  pointwise

/-- The reference's result. -/
def resultR (V0 : Valuation τ sig (Elt Ideal)) : FVec Ideal S4x256x256x7x7 .f32 :=
  Host.reduce (FloatOps.maximumf (F := Ideal) (φ := .f32)) (shapeCast S4x256x256x7x2x7x2
      (transpose S4x256x256x14x14 [0, 2, 1, 3, 4] (samples V0) transposes_S4x256x256x14x14_S4x256x256x14x14_0_2_1_3_4)
      shapeCasts_S4x256x256x14x14_S4x256x256x7x2x7x2) (constant (F := Ideal) S_ .f32 0xFF800000#32)
    reducesTo_S4x256x256x7x2x7x2_S4x256x256x7x7_d4_6 h_S_

/-- The reference's result at a cell: the largest of its four samples. -/
theorem resultR_apply (V0 : Valuation τ sig (Elt Ideal)) (b : Fin 4) (n ch : Fin 256) (i j : Fin 7) :
    resultR V0 (ix5 b n ch i j)
      = max (max (samples V0 (ix5 b ch n ⟨i * 2 + 0, by omega⟩ ⟨j * 2 + 0, by omega⟩))
          (samples V0 (ix5 b ch n ⟨i * 2 + 0, by omega⟩ ⟨j * 2 + 1, by omega⟩)))
        (max (samples V0 (ix5 b ch n ⟨i * 2 + 1, by omega⟩ ⟨j * 2 + 0, by omega⟩))
          (samples V0 (ix5 b ch n ⟨i * 2 + 1, by omega⟩ ⟨j * 2 + 1, by omega⟩))) := by
  unfold resultR
  rw [reduce_cell, cut_apply, cut_apply, cut_apply, cut_apply]
  rfl

/-- A run of the reference ends with the result in its place and the arguments as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v157) = resultR (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.Roi

end
-- ==== Proof.Boxes.lean ====
/-
  What the precondition says of a box.
-/
module

public import proofs.«01_k».proof.Pre_proper_boxes
public import proofs.«01_k».proof.Proof.Interp
public import Idealize.ShloMosaic.Lib.Pointwise
public import Idealize.ShloMosaic.Lib.Affine

@[expose] public section

noncomputable section

namespace Cert.Roi

open Idealize.ShloMosaic Idealize.ShloMosaic.Pipeline
open Cert.Pre_proper_boxes

/-- The precondition's operations fit their shapes. -/
instance boxesFacts : Cert.Pre_proper_boxes.Facts where
  slices_S4x256x4_S4x256x1_0_0_0 := by decide
  shapeCasts_S4x256x1_S4x256 := by decide
  slices_S4x256x4_S4x256x1_0_0_1 := by decide
  slices_S4x256x4_S4x256x1_0_0_2 := by decide
  slices_S4x256x4_S4x256x1_0_0_3 := by decide
  bcast_S_S4x256 := by decide

/-- A comparison that came out true, read. -/
theorem cmp_ge (x y : EReal) (h : Ideal.cmp .oge x y = 1#1) : y ≤ x := by
  unfold Ideal.cmp at h
  by_contra hn
  simp [hn] at h

/-- A comparison that came out true, read. -/
theorem cmp_gt (x y : EReal) (h : Ideal.cmp .ogt x y = 1#1) : y < x := by
  unfold Ideal.cmp at h
  by_contra hn
  simp [hn] at h

/-- A comparison that came out true, read. -/
theorem cmp_lt (x y : EReal) (h : Ideal.cmp .olt x y = 1#1) : x < y := by
  unfold Ideal.cmp at h
  by_contra hn
  simp [hn] at h

/-- Every box has a corner with coordinates that are not negative, and sides that are positive; none is infinite. -/
def Proper (P : FVec Ideal S4x256x4 .f32) : Prop :=
  ∀ (b : Fin 4) (n : Fin 256), (0 ≤ P (ix3 b n 0) ∧ P (ix3 b n 0) < ⊤) ∧ (0 ≤ P (ix3 b n 1) ∧ P (ix3 b n 1) < ⊤)
    ∧ (0 < P (ix3 b n 2) ∧ P (ix3 b n 2) < ⊤) ∧ (0 < P (ix3 b n 3) ∧ P (ix3 b n 3) < ⊤)

/-- The precondition, read. -/
theorem proper_of_pre (P : FVec Ideal S4x256x4 .f32) (X : FVec Ideal S4x256x50x50 .f32)
    (h : fn (F := Ideal) P X = fun _ => 1#1) : Proper P := by
  intro b n
  have e := congrFun h (ix2 b n)
  have e' : IntOp.andi (IntOp.andi (IntOp.andi (IntOp.andi (IntOp.andi (IntOp.andi (IntOp.andi
      (Ideal.cmp .oge (P (ix3 b n 0)) 0) (Ideal.cmp .oge (P (ix3 b n 1)) 0))
      (Ideal.cmp .ogt (P (ix3 b n 2)) 0)) (Ideal.cmp .ogt (P (ix3 b n 3)) 0))
      (Ideal.cmp .olt (P (ix3 b n 0)) ⊤)) (Ideal.cmp .olt (P (ix3 b n 1)) ⊤))
      (Ideal.cmp .olt (P (ix3 b n 2)) ⊤)) (Ideal.cmp .olt (P (ix3 b n 3)) ⊤) = 1#1 := by
    rw [← e, ← ofBits_inf]
    pointwise [fn, fn_part1]
  simp only [IntOp.andi_eq_one] at e'
  obtain ⟨⟨⟨⟨⟨⟨⟨a0, a1⟩, a2⟩, a3⟩, b0⟩, b1⟩, b2⟩, b3⟩ := e'
  exact ⟨⟨cmp_ge _ _ a0, cmp_lt _ _ b0⟩, ⟨cmp_ge _ _ a1, cmp_lt _ _ b1⟩, ⟨cmp_gt _ _ a2, cmp_lt _ _ b2⟩,
    ⟨cmp_gt _ _ a3, cmp_lt _ _ b3⟩⟩

end Cert.Roi

end
-- ==== Proof.Join.lean ====
/-
  The kernel's result is the reference's, where the boxes are proper: each of the kernel's samples is one of the reference's.
-/
module

public import proofs.«01_k».proof.Proof.KernelValue
public import proofs.«01_k».proof.Proof.RefRun
public import proofs.«01_k».proof.Proof.Boxes
public import proofs.«01_k».proof.Defs

@[expose] public section

set_option maxRecDepth 16384

noncomputable section

namespace Cert.Roi

open Idealize.ShloMosaic Idealize.ShloMosaic.Pipeline Idealize.SL.Sem

/-- A sample of the kernel's, in words of the reference: sample `7 i + j` of quarter `2 p + q` has the row of sample row
    `2 i + p`. -/
theorem row_table : ∀ (p q : Fin 2) (i j : Fin 7), Cert.KernelIdeal.lit0 ⟨(2 * p + q) * 49 + (7 * i + j), by omega⟩
    = Cert.ReferenceIdeal.lit0 ⟨i * 2 + p, by omega⟩ := by decide +kernel

/-- The same sample has the column of sample column `2 j + q`. -/
theorem col_table : ∀ (p q : Fin 2) (i j : Fin 7), Cert.KernelIdeal.lit1 ⟨(2 * p + q) * 49 + (7 * i + j), by omega⟩
    = Cert.ReferenceIdeal.lit0 ⟨j * 2 + q, by omega⟩ := by decide +kernel

/-- The entries of the table are finite and not negative. -/
theorem table_finite : ∀ i : Fin 14, (Cert.ReferenceIdeal.lit0 i).toNat < 0x7F800000 := by decide +kernel

/-- A finite coordinate, brought into the map. -/
theorem clipE_coe (r : ℝ) : clipE (r : EReal) = ((clampC r : ℝ) : EReal) := by
  unfold clipE clampC
  rw [(EReal.coe_strictMono.monotone.map_min : ((min 49 (max 0 r) : ℝ) : EReal) = _), coe_max]
  rfl

/-- A sum of all pixels by weight is the sum of the four neighbours. -/
theorem weighted_eq (P : FVec Ideal Cert.KernelIdeal.S4x256x4 .f32) (X : FVec Ideal Cert.KernelIdeal.S4x256x50x50 .f32)
    (b : Fin 4) (n ch : Fin 256) (q : Fin 196) (r s : ℝ) (hr : 0 ≤ r) (hs : 0 ≤ s)
    (er : rowE P b n q = clipE (r : EReal)) (es : colE P b n q = clipE (s : EReal)) :
    weighted P X b n ch q = bilinear X b ch r s := by
  unfold weighted
  rw [er, es, clipE_coe, clipE_coe]
  refine (Finset.sum_congr rfl fun i _ => Finset.sum_congr rfl fun j _ => ?_).trans
    ((interp (pixel X b ch) r s hr hs).trans ?_)
  · rw [wt_coe i (by omega), wt_coe j (by omega)]
  · unfold bilinear pixel
    rw [dif_pos ⟨lo_lt r, lo_lt s⟩, dif_pos ⟨lo_lt r, hi_lt s⟩, dif_pos ⟨hi_lt r, lo_lt s⟩, dif_pos ⟨hi_lt r, hi_lt s⟩]

/-- One of the kernel's samples is one of the reference's. -/
theorem sample_eq (V0 : Valuation Cert.ReferenceIdeal.τ Cert.ReferenceIdeal.sig (Elt Ideal)) (hP : Proper (boxesR V0))
    (b : Fin 4) (n ch : Fin 256) (i j : Fin 7) (p q : Fin 2) :
    weighted (boxesR V0) (mapR V0) b n ch ⟨(2 * p + q) * 49 + (7 * i + j), by omega⟩
      = samples V0 (ix5 b ch n ⟨i * 2 + p, by omega⟩ ⟨j * 2 + q, by omega⟩) := by
  obtain ⟨⟨x0, x1⟩, ⟨y0, y1⟩, ⟨w0, w1⟩, ⟨h0, h1⟩⟩ := hP b n
  obtain ⟨r, hr, er⟩ := coord_real _ _ _ x0 x1 w0 w1 (ofBits_nonneg _ (table_finite ⟨i * 2 + p, by omega⟩))
  obtain ⟨s, hs, es⟩ := coord_real _ _ _ y0 y1 h0 h1 (ofBits_nonneg _ (table_finite ⟨j * 2 + q, by omega⟩))
  rw [samples_apply V0 b n ch _ _ r s hr hs er es]
  refine weighted_eq _ _ b n ch _ r s hr hs ?_ ?_
  · unfold rowE
    rw [row_table p q i j, er]
  · unfold colE
    rw [col_table p q i j, es]

/-- The kernel's result is the reference's. -/
theorem result_eq (V0 : Valuation Cert.ReferenceIdeal.τ Cert.ReferenceIdeal.sig (Elt Ideal)) (hP : Proper (boxesR V0)) :
    resultK (boxesR V0) (mapR V0) = resultR V0 := by
  funext y
  idx_vars y
  rw [resultR_apply]
  have at_ : ∀ (q q' : Fin 196) (z : EReal), q.val = q'.val → weighted (boxesR V0) (mapR V0) y0 y1 y2 q' = z →
      weighted (boxesR V0) (mapR V0) y0 y1 y2 q = z := fun q q' z h e => Fin.ext h ▸ e
  show cellK (boxesR V0) (mapR V0) y0 y1 y2 y3 y4 = _
  unfold cellK
  exact congrArg₂ max
    (congrArg₂ max (at_ _ _ _ (by show 7 * y3.val + y4.val = 0 * 49 + (7 * y3.val + y4.val); omega) (sample_eq V0 hP y0 y1 y2 y3 y4 0 0))
      (at_ _ _ _ (by show 49 + (7 * y3.val + y4.val) = 1 * 49 + (7 * y3.val + y4.val); omega) (sample_eq V0 hP y0 y1 y2 y3 y4 0 1)))
    (congrArg₂ max (at_ _ _ _ (by show 98 + (7 * y3.val + y4.val) = 2 * 49 + (7 * y3.val + y4.val); omega) (sample_eq V0 hP y0 y1 y2 y3 y4 1 0))
      (at_ _ _ _ (by show 147 + (7 * y3.val + y4.val) = 3 * 49 + (7 * y3.val + y4.val); omega) (sample_eq V0 hP y0 y1 y2 y3 y4 1 1)))

/-- The kernel and the reference end with the same result, where the boxes are proper. -/
theorem same_result :
    Cert.algebraic_KernelIdeal_ReferenceIdeal_pre_proper_boxes (hKernelIdeal := Cert.KernelIdeal.Gen.facts)
      (hReferenceIdeal := Cert.ReferenceIdeal.Gen.facts) (hPre_proper_boxes := boxesFacts) := by
  intro m g m' g' hpre hargs
  refine ⟨fun c => resultK (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), run_kernel m g, ?_⟩
  refine (θ_run Cert.ReferenceIdeal.defs _ _).mono (fun r h c => ⟨(h c).1.trans ?_, (h c).2⟩) (run_reference m' g')
  have e0 : boxesR (StableHlo.launchContents m' c) = m ((c.tc : Thread Cert.KernelIdeal.nD Cert.KernelIdeal.τ).loc Cert.KernelIdeal.main_arg0) :=
    (hargs c).1
  have e1 : mapR (StableHlo.launchContents m' c) = m ((c.tc : Thread Cert.KernelIdeal.nD Cert.KernelIdeal.τ).loc Cert.KernelIdeal.main_arg1) :=
    (hargs c).2
  have hP : Proper (boxesR (StableHlo.launchContents m' c)) := by
    rw [e0]
    exact proper_of_pre _ _ (hpre c)
  rw [← result_eq _ hP, e0, e1]

end Cert.Roi

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Join
public import Idealize.ShloMosaic.Adequacy
public import Idealize.ShloMosaic.Init

@[expose] public section

noncomputable section

namespace Cert.Proof

open Idealize.ShloMosaic Idealize.SL.Sem Cert.Kernel

/-- The reference runs to its end, leaves its arguments as they were and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- Everything this certificate claims. -/
theorem claim : Cert.Claim := ⟨Cert.Kernel.Gen.facts, Cert.KernelIdeal.Gen.facts, Cert.ReferenceIdeal.Gen.facts, Cert.Roi.boxesFacts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, Cert.Roi.same_result⟩

end Cert.Proof

end
